-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths [hPre_lengths : Cert.Pre_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lengths [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lengths [hReferenceIdeal : Cert.ReferenceIdeal.Facts] [hPre_lengths : Cert.Pre_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_lengths [hKernelIdeal : Cert.KernelIdeal.Facts] [hReferenceIdeal : Cert.ReferenceIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lengths : Cert.Pre_lengths.Facts),
    quiescent_Kernel (hKernel := hKernel)
    ∧ quiescent_KernelIdeal (hKernelIdeal := hKernelIdeal)
    ∧ quiescent_KernelIdeal_pre_lengths (hKernelIdeal := hKernelIdeal) (hPre_lengths := hPre_lengths)
    ∧ quiescent_ReferenceIdeal (hReferenceIdeal := hReferenceIdeal)
    ∧ quiescent_ReferenceIdeal_pre_lengths (hReferenceIdeal := hReferenceIdeal) (hPre_lengths := hPre_lengths)
    ∧ preserves_Kernel_KernelIdeal
    ∧ algebraic_KernelIdeal_ReferenceIdeal_pre_lengths (hKernelIdeal := hKernelIdeal) (hReferenceIdeal := hReferenceIdeal) (hPre_lengths := hPre_lengths)
-- ==== Pre_lengths.lean ====
abbrev S1x16x4096x1024 : Shape := ⟨4, ![1, 16, 4096, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S1x16x4096x1024 .f32) (main_arg1 : IVec S16 32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S1x16x4096x1024 : Shape := ⟨4, ![1, 16, 4096, 1024]⟩
abbrev S16 : Shape := ⟨1, ![16]⟩
abbrev S16x4096x1024 : Shape := ⟨3, ![16, 4096, 1024]⟩
abbrev S16x16x256x1024 : Shape := ⟨4, ![16, 16, 256, 1024]⟩
abbrev S1x16 : Shape := ⟨2, ![1, 16]⟩
abbrev S_ : Shape := ⟨0, ![]⟩
abbrev S16x1 : Shape := ⟨2, ![16, 1]⟩
abbrev S16x16 : Shape := ⟨2, ![16, 16]⟩
abbrev S16x1x1024 : Shape := ⟨3, ![16, 1, 1024]⟩
abbrev S1x1x256x1024 : Shape := ⟨4, ![1, 1, 256, 1024]⟩
abbrev S1x1 : Shape := ⟨2, ![1, 1]⟩
abbrev S1x1x1024 : Shape := ⟨3, ![1, 1, 1024]⟩
abbrev S1 : Shape := ⟨1, ![1]⟩
abbrev S1x1x256x1 : Shape := ⟨4, ![1, 1, 256, 1]⟩
abbrev S16x1024 : Shape := ⟨2, ![16, 1024]⟩

abbrev nBuf : Space → Nat
  | .hbm => 26
  | .vmem => 34
  | .smem => 2
  | _ => 0

abbrev bufTy : (tb : Table) → Fin (tcTables nBuf tb) → BufTy
  | .hbm, ⟨0, _⟩ => ⟨S1x16x4096x1024, .f32⟩
  | .hbm, ⟨1, _⟩ => ⟨S16x4096x1024, .f32⟩
  | .hbm, ⟨2, _⟩ => ⟨S16x16x256x1024, .f32⟩
  | .hbm, ⟨3, _⟩ => ⟨S16, .i32⟩
  | .hbm, ⟨4, _⟩ => ⟨S1x16, .i32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16x1, .i32⟩
  | .hbm, ⟨10, _⟩ => ⟨S16x16, .i32⟩
  | .hbm, ⟨11, _⟩ => ⟨S16x16, .i32⟩
  | .hbm, ⟨12, _⟩ => ⟨S16x16, .i1⟩
  | .hbm, ⟨13, _⟩ => ⟨S1x16, .i32⟩
  | .hbm, ⟨14, _⟩ => ⟨S_, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .i32⟩
  | .hbm, ⟨19, _⟩ => ⟨S_, .i32⟩
  | .hbm, ⟨20, _⟩ => ⟨S_, .i32⟩
  | .hbm, ⟨21, _⟩ => ⟨S16x16, .i32⟩
  | .hbm, ⟨22, _⟩ => ⟨S_, .i32⟩
  | .hbm, ⟨23, _⟩ => ⟨S16x16, .i32⟩
  | .hbm, ⟨24, _⟩ => ⟨S16x1x1024, .f32⟩
  | .hbm, ⟨25, _⟩ => ⟨S16x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x1x256x1024, .f32⟩
  | .local _ .vmem, ⟨5, _⟩ => ⟨S1x1x256x1024, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x1x256x1024, .f32⟩
  | .local _ .vmem, ⟨9, _⟩ => ⟨S1x1x256x1024, .f32⟩
  | .local _ .vmem, ⟨10, _⟩ => ⟨S1x1x256x1024, .f32⟩
  | .local _ .vmem, ⟨11, _⟩ => ⟨S1x1x256x1024, .f32⟩
  | .local _ .vmem, ⟨12, _⟩ => ⟨S1x1x256x1024, .f32⟩
  | .local _ .vmem, ⟨13, _⟩ => ⟨S1x1x256x1024, .f32⟩
  | .local _ .vmem, ⟨14, _⟩ => ⟨S1x1x256x1024, .f32⟩
  | .local _ .vmem, ⟨15, _⟩ => ⟨S1x1x256x1024, .f32⟩
  | .local _ .vmem, ⟨16, _⟩ => ⟨S1x1x256x1024, .f32⟩
  | .local _ .vmem, ⟨17, _⟩ => ⟨S1x1x256x1024, .f32⟩
  | .local _ .vmem, ⟨18, _⟩ => ⟨S1x1x256x1024, .f32⟩
  | .local _ .vmem, ⟨19, _⟩ => ⟨S1x1x256x1024, .f32⟩
  | .local _ .vmem, ⟨20, _⟩ => ⟨S1x1x256x1024, .f32⟩
  | .local _ .vmem, ⟨21, _⟩ => ⟨S1x1x256x1024, .f32⟩
  | .local _ .vmem, ⟨22, _⟩ => ⟨S1x1x256x1024, .f32⟩
  | .local _ .vmem, ⟨23, _⟩ => ⟨S1x1x256x1024, .f32⟩
  | .local _ .vmem, ⟨24, _⟩ => ⟨S1x1x256x1024, .f32⟩
  | .local _ .vmem, ⟨25, _⟩ => ⟨S1x1x256x1024, .f32⟩
  | .local _ .vmem, ⟨26, _⟩ => ⟨S1x1x256x1024, .f32⟩
  | .local _ .vmem, ⟨27, _⟩ => ⟨S1x1x256x1024, .f32⟩
  | .local _ .vmem, ⟨28, _⟩ => ⟨S1x1x256x1024, .f32⟩
  | .local _ .vmem, ⟨29, _⟩ => ⟨S1x1x256x1024, .f32⟩
  | .local _ .vmem, ⟨30, _⟩ => ⟨S1x1x256x1024, .f32⟩
  | .local _ .vmem, ⟨31, _⟩ => ⟨S1x1x256x1024, .f32⟩
  | .local _ .vmem, ⟨32, _⟩ => ⟨S1x1x1024, .f32⟩
  | .local _ .vmem, ⟨33, _⟩ => ⟨S1x1x1024, .f32⟩
  | .local _ .smem, ⟨0, _⟩ => ⟨S16, .i32⟩
  | .local _ .smem, ⟨1, _⟩ => ⟨S16x16, .i32⟩
  | _, _ => ⟨S1x16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v12 : Ref sig .tc := ⟨.hbm, 18, rfl⟩
abbrev main_call1_c : Ref sig .tc := ⟨.hbm, 19, rfl⟩
abbrev main_call1_v0 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v16 : Ref sig .tc := ⟨.hbm, 24, rfl⟩
abbrev main_v17 : Ref sig .tc := ⟨.hbm, 25, rfl⟩
abbrev main_arg1 : Ref sig .tc := ⟨.smem, 0, rfl⟩
abbrev main_v15 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_arg1.idx, main_v15.idx], fun | 0 => main_arg1.names | 1 => main_v15.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v0 : Index := Scalar.indexCast arg0
  ![1, v0.toNat]
def k0_off3 (i : grid0.Coords) : Fin 2 → Nat :=
  let c2 : Index := 2#32
  let arg0 : BitVec 32 := BitVec.ofNat 32 (i 0).val
  let v0 : Index := Scalar.indexCast arg0
  ![2, v0.toNat]
def k0_off4 (i : grid0.Coords) : Fin 2 → Nat :=
  let c3 : Index := 3#32
  let arg0 : BitVec 32 := BitVec.ofNat 32 (i 0).val
  let v0 : Index := Scalar.indexCast arg0
  ![3, v0.toNat]
def k0_off5 (i : grid0.Coords) : Fin 2 → Nat :=
  let c4 : Index := 4#32
  let arg0 : BitVec 32 := BitVec.ofNat 32 (i 0).val
  let v0 : Index := Scalar.indexCast arg0
  ![4, v0.toNat]
def k0_off6 (i : grid0.Coords) : Fin 2 → Nat :=
  let c5 : Index := 5#32
  let arg0 : BitVec 32 := BitVec.ofNat 32 (i 0).val
  let v0 : Index := Scalar.indexCast arg0
  ![5, v0.toNat]
def k0_off7 (i : grid0.Coords) : Fin 2 → Nat :=
  let c6 : Index := 6#32
  let arg0 : BitVec 32 := BitVec.ofNat 32 (i 0).val
  let v0 : Index := Scalar.indexCast arg0
  ![6, v0.toNat]
def k0_off8 (i : grid0.Coords) : Fin 2 → Nat :=
  let c7 : Index := 7#32
  let arg0 : BitVec 32 := BitVec.ofNat 32 (i 0).val
  let v0 : Index := Scalar.indexCast arg0
  ![7, v0.toNat]
def k0_off9 (i : grid0.Coords) : Fin 2 → Nat :=
  let c8 : Index := 8#32
  let arg0 : BitVec 32 := BitVec.ofNat 32 (i 0).val
  let v0 : Index := Scalar.indexCast arg0
  ![8, v0.toNat]
def k0_off10 (i : grid0.Coords) : Fin 2 → Nat :=
  let c9 : Index := 9#32
  let arg0 : BitVec 32 := BitVec.ofNat 32 (i 0).val
  let v0 : Index := Scalar.indexCast arg0
  ![9, v0.toNat]
def k0_off11 (i : grid0.Coords) : Fin 2 → Nat :=
  let c10 : Index := 10#32
  let arg0 : BitVec 32 := BitVec.ofNat 32 (i 0).val
  let v0 : Index := Scalar.indexCast arg0
  ![10, v0.toNat]
def k0_off12 (i : grid0.Coords) : Fin 2 → Nat :=
  let c11 : Index := 11#32
  let arg0 : BitVec 32 := BitVec.ofNat 32 (i 0).val
  let v0 : Index := Scalar.indexCast arg0
  ![11, v0.toNat]
def k0_off13 (i : grid0.Coords) : Fin 2 → Nat :=
  let c12 : Index := 12#32
  let arg0 : BitVec 32 := BitVec.ofNat 32 (i 0).val
  let v0 : Index := Scalar.indexCast arg0
  ![12, v0.toNat]
def k0_off14 (i : grid0.Coords) : Fin 2 → Nat :=
  let c13 : Index := 13#32
  let arg0 : BitVec 32 := BitVec.ofNat 32 (i 0).val
  let v0 : Index := Scalar.indexCast arg0
  ![13, v0.toNat]
def k0_off15 (i : grid0.Coords) : Fin 2 → Nat :=
  let c14 : Index := 14#32
  let arg0 : BitVec 32 := BitVec.ofNat 32 (i 0).val
  let v0 : Index := Scalar.indexCast arg0
  ![14, v0.toNat]
def k0_off16 (i : grid0.Coords) : Fin 2 → Nat :=
  let c15 : Index := 15#32
  let arg0 : BitVec 32 := BitVec.ofNat 32 (i 0).val
  let v0 : Index := Scalar.indexCast arg0
  ![15, v0.toNat]
def k0_off17 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c0 : Index := 0#32
  let v0 : Index := Scalar.indexCast arg0
  let v1 : BitVec 32 := pf.at 1 (Rect.unit (s := S16x16) ![0, v0.toNat] S1x1.size (k0_off1_inb i)) numel1_S1x1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (k0_off2_inb : ∀ i : grid0.Coords, ∀ a, (k0_off2 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c1 : Index := 1#32
  let v0 : Index := Scalar.indexCast arg0
  let v1 : BitVec 32 := pf.at 1 (Rect.unit (s := S16x16) ![1, v0.toNat] S1x1.size (k0_off2_inb i)) numel1_S1x1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_2 (k0_off3_inb : ∀ i : grid0.Coords, ∀ a, (k0_off3 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c2 : Index := 2#32
  let v0 : Index := Scalar.indexCast arg0
  let v1 : BitVec 32 := pf.at 1 (Rect.unit (s := S16x16) ![2, v0.toNat] S1x1.size (k0_off3_inb i)) numel1_S1x1
  let c2_i32 : BitVec 32 := 2#32
  let c0_i32 : BitVec 32 := 0#32
  let c0_i32_0 : BitVec 32 := 0#32
  let c0_i32_1 : BitVec 32 := 0#32
  ![v1.toNat, c2_i32.toNat, c0_i32.toNat, c0_i32_0.toNat]

def cc0_transform_3 (k0_off4_inb : ∀ i : grid0.Coords, ∀ a, (k0_off4 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c3 : Index := 3#32
  let v0 : Index := Scalar.indexCast arg0
  let v1 : BitVec 32 := pf.at 1 (Rect.unit (s := S16x16) ![3, v0.toNat] S1x1.size (k0_off4_inb i)) numel1_S1x1
  let c3_i32 : BitVec 32 := 3#32
  let c0_i32 : BitVec 32 := 0#32
  let c0_i32_0 : BitVec 32 := 0#32
  let c0_i32_1 : BitVec 32 := 0#32
  ![v1.toNat, c3_i32.toNat, c0_i32.toNat, c0_i32_0.toNat]

def cc0_transform_4 (k0_off5_inb : ∀ i : grid0.Coords, ∀ a, (k0_off5 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c4 : Index := 4#32
  let v0 : Index := Scalar.indexCast arg0
  let v1 : BitVec 32 := pf.at 1 (Rect.unit (s := S16x16) ![4, v0.toNat] S1x1.size (k0_off5_inb i)) numel1_S1x1
  let c4_i32 : BitVec 32 := 4#32
  let c0_i32 : BitVec 32 := 0#32
  let c0_i32_0 : BitVec 32 := 0#32
  let c0_i32_1 : BitVec 32 := 0#32
  ![v1.toNat, c4_i32.toNat, c0_i32.toNat, c0_i32_0.toNat]

def cc0_transform_5 (k0_off6_inb : ∀ i : grid0.Coords, ∀ a, (k0_off6 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c5 : Index := 5#32
  let v0 : Index := Scalar.indexCast arg0
  let v1 : BitVec 32 := pf.at 1 (Rect.unit (s := S16x16) ![5, v0.toNat] S1x1.size (k0_off6_inb i)) numel1_S1x1
  let c5_i32 : BitVec 32 := 5#32
  let c0_i32 : BitVec 32 := 0#32
  let c0_i32_0 : BitVec 32 := 0#32
  let c0_i32_1 : BitVec 32 := 0#32
  ![v1.toNat, c5_i32.toNat, c0_i32.toNat, c0_i32_0.toNat]

def cc0_transform_6 (k0_off7_inb : ∀ i : grid0.Coords, ∀ a, (k0_off7 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c6 : Index := 6#32
  let v0 : Index := Scalar.indexCast arg0
  let v1 : BitVec 32 := pf.at 1 (Rect.unit (s := S16x16) ![6, v0.toNat] S1x1.size (k0_off7_inb i)) numel1_S1x1
  let c6_i32 : BitVec 32 := 6#32
  let c0_i32 : BitVec 32 := 0#32
  let c0_i32_0 : BitVec 32 := 0#32
  let c0_i32_1 : BitVec 32 := 0#32
  ![v1.toNat, c6_i32.toNat, c0_i32.toNat, c0_i32_0.toNat]

def cc0_transform_7 (k0_off8_inb : ∀ i : grid0.Coords, ∀ a, (k0_off8 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c7 : Index := 7#32
  let v0 : Index := Scalar.indexCast arg0
  let v1 : BitVec 32 := pf.at 1 (Rect.unit (s := S16x16) ![7, v0.toNat] S1x1.size (k0_off8_inb i)) numel1_S1x1
  let c7_i32 : BitVec 32 := 7#32
  let c0_i32 : BitVec 32 := 0#32
  let c0_i32_0 : BitVec 32 := 0#32
  let c0_i32_1 : BitVec 32 := 0#32
  ![v1.toNat, c7_i32.toNat, c0_i32.toNat, c0_i32_0.toNat]

def cc0_transform_8 (k0_off9_inb : ∀ i : grid0.Coords, ∀ a, (k0_off9 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c8 : Index := 8#32
  let v0 : Index := Scalar.indexCast arg0
  let v1 : BitVec 32 := pf.at 1 (Rect.unit (s := S16x16) ![8, v0.toNat] S1x1.size (k0_off9_inb i)) numel1_S1x1
  let c8_i32 : BitVec 32 := 8#32
  let c0_i32 : BitVec 32 := 0#32
  let c0_i32_0 : BitVec 32 := 0#32
  let c0_i32_1 : BitVec 32 := 0#32
  ![v1.toNat, c8_i32.toNat, c0_i32.toNat, c0_i32_0.toNat]

def cc0_transform_9 (k0_off10_inb : ∀ i : grid0.Coords, ∀ a, (k0_off10 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c9 : Index := 9#32
  let v0 : Index := Scalar.indexCast arg0
  let v1 : BitVec 32 := pf.at 1 (Rect.unit (s := S16x16) ![9, v0.toNat] S1x1.size (k0_off10_inb i)) numel1_S1x1
  let c9_i32 : BitVec 32 := 9#32
  let c0_i32 : BitVec 32 := 0#32
  let c0_i32_0 : BitVec 32 := 0#32
  let c0_i32_1 : BitVec 32 := 0#32
  ![v1.toNat, c9_i32.toNat, c0_i32.toNat, c0_i32_0.toNat]

def cc0_transform_10 (k0_off11_inb : ∀ i : grid0.Coords, ∀ a, (k0_off11 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c10 : Index := 10#32
  let v0 : Index := Scalar.indexCast arg0
  let v1 : BitVec 32 := pf.at 1 (Rect.unit (s := S16x16) ![10, v0.toNat] S1x1.size (k0_off11_inb i)) numel1_S1x1
  let c10_i32 : BitVec 32 := 10#32
  let c0_i32 : BitVec 32 := 0#32
  let c0_i32_0 : BitVec 32 := 0#32
  let c0_i32_1 : BitVec 32 := 0#32
  ![v1.toNat, c10_i32.toNat, c0_i32.toNat, c0_i32_0.toNat]

def cc0_transform_11 (k0_off12_inb : ∀ i : grid0.Coords, ∀ a, (k0_off12 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c11 : Index := 11#32
  let v0 : Index := Scalar.indexCast arg0
  let v1 : BitVec 32 := pf.at 1 (Rect.unit (s := S16x16) ![11, v0.toNat] S1x1.size (k0_off12_inb i)) numel1_S1x1
  let c11_i32 : BitVec 32 := 11#32
  let c0_i32 : BitVec 32 := 0#32
  let c0_i32_0 : BitVec 32 := 0#32
  let c0_i32_1 : BitVec 32 := 0#32
  ![v1.toNat, c11_i32.toNat, c0_i32.toNat, c0_i32_0.toNat]

def cc0_transform_12 (k0_off13_inb : ∀ i : grid0.Coords, ∀ a, (k0_off13 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c12 : Index := 12#32
  let v0 : Index := Scalar.indexCast arg0
  let v1 : BitVec 32 := pf.at 1 (Rect.unit (s := S16x16) ![12, v0.toNat] S1x1.size (k0_off13_inb i)) numel1_S1x1
  let c12_i32 : BitVec 32 := 12#32
  let c0_i32 : BitVec 32 := 0#32
  let c0_i32_0 : BitVec 32 := 0#32
  let c0_i32_1 : BitVec 32 := 0#32
  ![v1.toNat, c12_i32.toNat, c0_i32.toNat, c0_i32_0.toNat]

def cc0_transform_13 (k0_off14_inb : ∀ i : grid0.Coords, ∀ a, (k0_off14 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c13 : Index := 13#32
  let v0 : Index := Scalar.indexCast arg0
  let v1 : BitVec 32 := pf.at 1 (Rect.unit (s := S16x16) ![13, v0.toNat] S1x1.size (k0_off14_inb i)) numel1_S1x1
  let c13_i32 : BitVec 32 := 13#32
  let c0_i32 : BitVec 32 := 0#32
  let c0_i32_0 : BitVec 32 := 0#32
  let c0_i32_1 : BitVec 32 := 0#32
  ![v1.toNat, c13_i32.toNat, c0_i32.toNat, c0_i32_0.toNat]

def cc0_transform_14 (k0_off15_inb : ∀ i : grid0.Coords, ∀ a, (k0_off15 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c14 : Index := 14#32
  let v0 : Index := Scalar.indexCast arg0
  let v1 : BitVec 32 := pf.at 1 (Rect.unit (s := S16x16) ![14, v0.toNat] S1x1.size (k0_off15_inb i)) numel1_S1x1
  let c14_i32 : BitVec 32 := 14#32
  let c0_i32 : BitVec 32 := 0#32
  let c0_i32_0 : BitVec 32 := 0#32
  let c0_i32_1 : BitVec 32 := 0#32
  ![v1.toNat, c14_i32.toNat, c0_i32.toNat, c0_i32_0.toNat]

def cc0_transform_15 (k0_off16_inb : ∀ i : grid0.Coords, ∀ a, (k0_off16 i) a + S1x1.size a ≤ S16x16.size a) (numel1_S1x1 : S1x1.numel = 1) (pf : pre0.Contents (Elt F)) (i : grid0.Coords) : Fin 4 → Nat :=
  let arg0 : BitVec 32 := BitVec.ofNat 32 (i 0).val
  let c15 : Index := 15#32
  let v0 : Index := Scalar.indexCast arg0
  let v1 : BitVec 32 := pf.at 1 (Rect.unit (s := S16x16) ![15, v0.toNat] S1x1.size (k0_off16_inb i)) numel1_S1x1
  let c15_i32 : BitVec 32 := 15#32
  let c0_i32 : BitVec 32 := 0#32
  let c0_i32_0 : BitVec 32 := 0#32
  let c0_i32_1 : BitVec 32 := 0#32
  ![v1.toNat, c15_i32.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S1x16x4096x1024 : Shape := ⟨4, ![1, 16, 4096, 1024]⟩
abbrev S16 : Shape := ⟨1, ![16]⟩
abbrev S16x4096x1024 : Shape := ⟨3, ![16, 4096, 1024]⟩
abbrev S4096 : Shape := ⟨1, ![4096]⟩
abbrev S1x4096x1 : Shape := ⟨3, ![1, 4096, 1]⟩
abbrev S16x1x1 : Shape := ⟨3, ![16, 1, 1]⟩
abbrev S16x4096x1 : Shape := ⟨3, ![16, 4096, 1]⟩
abbrev S_ : Shape := ⟨0, ![]⟩
abbrev S16x1024 : Shape := ⟨2, ![16, 1024]⟩
abbrev S16x1 : Shape := ⟨2, ![16, 1]⟩

abbrev nBuf : Space → Nat
  | .hbm => 19
  | .vmem => 0
  | .smem => 0
  | _ => 0

abbrev bufTy : (tb : Table) → Fin (tcTables nBuf tb) → BufTy
  | .hbm, ⟨0, _⟩ => ⟨S1x16x4096x1024, .f32⟩
  | .hbm, ⟨1, _⟩ => ⟨S16, .i32⟩
  | .hbm, ⟨2, _⟩ => ⟨S16x4096x1024, .f32⟩
  | .hbm, ⟨3, _⟩ => ⟨S4096, .i32⟩
  | .hbm, ⟨4, _⟩ => ⟨S1x4096x1, .i32⟩
  | .hbm, ⟨5, _⟩ => ⟨S16x1x1, .i32⟩
  | .hbm, ⟨6, _⟩ => ⟨S16x4096x1, .i32⟩
  | .hbm, ⟨7, _⟩ => ⟨S16x4096x1, .i32⟩
  | .hbm, ⟨8, _⟩ => ⟨S16x4096x1, .i1⟩
  | .hbm, ⟨9, _⟩ => ⟨S_, .f32⟩
  | .hbm, ⟨10, _⟩ => ⟨S16x4096x1024, .i1⟩
  | .hbm, ⟨11, _⟩ => ⟨S16x4096x1024, .f32⟩
  | .hbm, ⟨12, _⟩ => ⟨S16x4096x1024, .f32⟩
  | .hbm, ⟨13, _⟩ => ⟨S_, .f32⟩
  | .hbm, ⟨14, _⟩ => ⟨S16x1024, .f32⟩
  | .hbm, ⟨15, _⟩ => ⟨S16x1, .i32⟩
  | .hbm, ⟨16, _⟩ => ⟨S16x1, .f32⟩
  | .hbm, ⟨17, _⟩ => ⟨S16x1024, .f32⟩
  | .hbm, ⟨18, _⟩ => ⟨S16x1024, .f32⟩
  | _, _ => ⟨S1x16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.Transfer.lean ====
module

public import proofs.«01_k».proof.Proof.Gen.Kernel
public import proofs.«01_k».proof.Proof.Gen.KernelIdeal

/-!
# The kernel and its idealization are one program

No operation of the kernel is rewritten, so the two programs are the same at every reading of the floats.
-/

@[expose] public section

set_option maxRecDepth 65536
set_option maxHeartbeats 0

noncomputable section

namespace Cert.Pool

open Idealize.ShloMosaic Idealize.ShloMosaic.TcCoe

variable {F : FTy → Type} [FloatOps F]

/-- The kernel's body. -/
theorem body_same : @Cert.Kernel.cc0__body F _ Cert.Kernel.Gen.facts = @Cert.KernelIdeal.cc0__body F _ Cert.KernelIdeal.Gen.facts := rfl
/-- The two programs. -/
theorem main_same : @Cert.Kernel.main F _ Cert.Kernel.Gen.facts = @Cert.KernelIdeal.main F _ Cert.KernelIdeal.Gen.facts := rfl
/-- The bodies' table. -/
theorem defs₀_same : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l p
  match l, p with
  | ⟨0, _⟩, (t, s) =>
    dsimp only
    rw [body_same]
    rfl
  | ⟨_ + 1, h⟩, _ => exact absurd h (Nat.not_lt.2 (Nat.le_add_left _ _))
/-- The table of all labels. -/
theorem defs_same : @Cert.Kernel.defs F _ Cert.Kernel.Gen.facts = @Cert.KernelIdeal.defs F _ Cert.KernelIdeal.Gen.facts := by
  unfold Cert.Kernel.defs Cert.KernelIdeal.defs
  rw [defs₀_same]
  rfl

end Cert.Pool
end
-- ==== Proof.Step.lean ====
module

public import Idealize.ShloMosaic.Lib.Pipeline.FrameBody
public import Idealize.ShloMosaic.Lib.VecWindow
public import Idealize.ShloMosaic.Lib.Tactic

/-!
# One conditional step of the kernel's body

The body adds one block of rows to the running total only when that block has a row to count, and it does so
sixteen times over. This module states the step once: as a program over any two whole buffers (`step`), and what it
leaves in them (`wp_step`).
-/

@[expose] public section

set_option maxRecDepth 16384

noncomputable section

namespace Cert.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {nD : ℕ} {τ : Topo} {sig : RefSig} {Λ : Labels}

/-- If the word `b` is set, read the block `A` and the total `O`, and store `pay` of the two in `O`; then go on with `k`. -/
def step {α : Type} {sA sO : Shape} (b : BitVec 1) (A : Memref sig .tc .vmem sA .f32) (O : Memref sig .tc .vmem sO .f32)
    {oA : Fin sA.rank → ℕ} {oO : Fin sO.rank → ℕ} (iA : ∀ a, oA a + sA.size a ≤ sA.size a) (iO : ∀ a, oO a + sO.size a ≤ sO.size a)
    (hA : A.view.LoadsAt (Rect.unit oA sA.size iA).toLoadRect) (hO : O.view.LoadsAt (Rect.unit oO sO.size iO).toLoadRect)
    (hs : (O.access (Rect.unit oO sO.size iO)).Stores Finset.univ)
    (pay : Vec F sA .f32 → Vec F sO .f32 → Vec F sO .f32)
    (k : Prog (TpuEff nD τ sig (Elt F) Λ .tc) α) : Prog (TpuEff nD τ sig (Elt F) Λ .tc) α :=
  if b = 1#1 then do
    let x : Vec F sA .f32 ← Prog.lift (.load A (Rect.unit oA sA.size iA).toLoadRect hA)
    let y : Vec F sO .f32 ← Prog.lift (.load O (Rect.unit oO sO.size iO).toLoadRect hO)
    let _ : Vec F sO .f32 ← Prog.lift (.load O (Rect.unit oO sO.size iO).toLoadRect hO)
    Prog.lift (.store O (Rect.unit oO sO.size iO) (pay x y) Finset.univ hs (.inl rfl))
    k
  else k

/-- What a step leaves: the block as it was, and the total with the block added when the word is set. -/
theorem wp_step (c : Dev nD) (D : Defs nD τ sig (Elt F) Λ) (𝒱 : Variants) (E : Set ℕ) {α : Type} {sA sO : Shape} (b : BitVec 1)
    (A : Memref sig .tc .vmem sA .f32) (hwA : A.IsWhole) (O : Memref sig .tc .vmem sO .f32) (hwO : O.IsWhole)
    {oA : Fin sA.rank → ℕ} {oO : Fin sO.rank → ℕ} {iA : ∀ a, oA a + sA.size a ≤ sA.size a} {iO : ∀ a, oO a + sO.size a ≤ sO.size a}
    {hA : A.view.LoadsAt (Rect.unit oA sA.size iA).toLoadRect} {hO : O.view.LoadsAt (Rect.unit oO sO.size iO).toLoadRect}
    {hs : (O.access (Rect.unit oO sO.size iO)).Stores Finset.univ}
    (pay : Vec F sA .f32 → Vec F sO .f32 → Vec F sO .f32) (x : Vec F sA .f32) (y : Vec F sO .f32)
    (k : Prog (TpuEff nD τ sig (Elt F) Λ .tc) α) (K : α → sProp (MT nD τ sig Unit (Elt F) ℕ (UR sig nD τ) ℕ)) :
    iprop(owns (c : Thread nD τ) A fullShare x ∗ owns (c : Thread nD τ) O fullShare y
        ∗ (iprop(owns (c : Thread nD τ) A fullShare x ∗ owns (c : Thread nD τ) O fullShare (if b = 1#1 then pay x y else y))
            -∗ wp frame (wpE D 𝒱 c none) E k K))
      ⊢ wp frame (wpE D 𝒱 c none) E (step b A O iA iO hA hO hs pay k) K := by
  unfold step
  by_cases hb : b = 1#1
  · rw [if_pos hb, if_pos hb]
    unfold owns
    iintro ⟨⟨%f, %hf, HA⟩, ⟨%g, %hg, HO⟩, Hk⟩
    obtain rfl := hwA.eq_unread hf; obtain rfl := hwO.eq_unread hg
    sl_exec
    rw [View.readAt_full, View.readAt_full, hf, hg]
    iapply Hk
    isplitl [HA]
    · iexists _; isplitr; · ipureintro; exact hf
      iexact HA
    · iexists (O.view.writes (Elt F) (hwO.unread y) [⟨Rect.unit oO sO.size iO, pay x y⟩]); isplitr
      · ipureintro; exact View.read_writes_full _ _ _ _ _
      iexact HO
  · rw [if_neg hb, if_neg hb]
    iintro ⟨HA, HO, Hk⟩
    iapply Hk
    isplitl [HA]; · iexact HA
    iexact HO

/-- One step's data: the block's buffer, what it holds, the word that decides the step and what the step stores. -/
structure Item (sig : RefSig) (F : FTy → Type) (sA sO : Shape) where
  /-- the word that decides the step -/
  b : BitVec 1
  /-- the block's buffer -/
  A : Memref sig .tc .vmem sA .f32
  /-- it is a whole buffer -/
  whole : A.IsWhole
  /-- what the step stores -/
  pay : Vec F sA .f32 → Vec F sO .f32 → Vec F sO .f32
  /-- what the block holds -/
  x : Vec F sA .f32

/-- The total after one step. -/
def Item.next {sA sO : Shape} (d : Item sig F sA sO) (y : Vec F sO .f32) : Vec F sO .f32 := if d.b = 1#1 then d.pay d.x y else y

/-- The steps of a list, in order, each over its own block and all over one total. -/
def steps {α : Type} {sA sO : Shape} (O : Memref sig .tc .vmem sO .f32)
    {oA : Fin sA.rank → ℕ} {oO : Fin sO.rank → ℕ} (iA : ∀ a, oA a + sA.size a ≤ sA.size a) (iO : ∀ a, oO a + sO.size a ≤ sO.size a)
    (hA : ∀ A : Memref sig .tc .vmem sA .f32, A.view.LoadsAt (Rect.unit oA sA.size iA).toLoadRect)
    (hO : O.view.LoadsAt (Rect.unit oO sO.size iO).toLoadRect) (hs : (O.access (Rect.unit oO sO.size iO)).Stores Finset.univ)
    (l : List (Item sig F sA sO)) (k : Prog (TpuEff nD τ sig (Elt F) Λ .tc) α) : Prog (TpuEff nD τ sig (Elt F) Λ .tc) α :=
  l.foldr (fun d k => step d.b d.A O iA iO (hA d.A) hO hs d.pay k) k

/-- The blocks of a list, held. -/
def held (nD : ℕ) (τ : Topo) {sA sO : Shape} (c : Dev nD) (l : List (Item sig F sA sO)) : sProp (MT nD τ sig Unit (Elt F) ℕ (UR sig nD τ) ℕ) :=
  l.foldr (fun d R => iprop(owns (c : Thread nD τ) d.A fullShare d.x ∗ R)) iprop(emp)

/-- What a list of steps leaves: the blocks as they were, and the total taken through the steps in order. -/
theorem wp_steps (c : Dev nD) (D : Defs nD τ sig (Elt F) Λ) (𝒱 : Variants) (E : Set ℕ) {α : Type} {sA sO : Shape}
    (O : Memref sig .tc .vmem sO .f32) (hwO : O.IsWhole)
    {oA : Fin sA.rank → ℕ} {oO : Fin sO.rank → ℕ} {iA : ∀ a, oA a + sA.size a ≤ sA.size a} {iO : ∀ a, oO a + sO.size a ≤ sO.size a}
    {hA : ∀ A : Memref sig .tc .vmem sA .f32, A.view.LoadsAt (Rect.unit oA sA.size iA).toLoadRect}
    {hO : O.view.LoadsAt (Rect.unit oO sO.size iO).toLoadRect} {hs : (O.access (Rect.unit oO sO.size iO)).Stores Finset.univ}
    (l : List (Item sig F sA sO)) (y : Vec F sO .f32)
    (k : Prog (TpuEff nD τ sig (Elt F) Λ .tc) α) (K : α → sProp (MT nD τ sig Unit (Elt F) ℕ (UR sig nD τ) ℕ)) :
    iprop(held nD τ c l ∗ owns (c : Thread nD τ) O fullShare y
        ∗ (iprop(held nD τ c l ∗ owns (c : Thread nD τ) O fullShare (l.foldl (fun y d => d.next y) y))
            -∗ wp frame (wpE D 𝒱 c none) E k K))
      ⊢ wp frame (wpE D 𝒱 c none) E (steps O iA iO hA hO hs l k) K := by
  induction l generalizing y with
  | nil =>
    iintro ⟨HA, HO, Hk⟩
    unfold steps
    iapply Hk
    isplitl [HA]; · iexact HA
    iexact HO
  | cons d l ih =>
    have e : steps (nD := nD) (τ := τ) O iA iO hA hO hs (d :: l) k = step d.b d.A O iA iO (hA d.A) hO hs d.pay (steps O iA iO hA hO hs l k) := rfl
    have eh : held nD τ c (d :: l) = iprop(owns (c : Thread nD τ) d.A fullShare d.x ∗ held nD τ c l) := rfl
    rw [e, eh, List.foldl_cons]
    iintro ⟨⟨Hd, HA⟩, HO, Hk⟩
    iapply wp_step c D 𝒱 E d.b d.A d.whole O hwO d.pay d.x y
    isplitl [Hd]; · iexact Hd
    isplitl [HO]; · iexact HO
    iintro ⟨Hd, HO⟩
    iapply ih (d.next y)
    isplitl [HA]; · iexact HA
    isplitl [HO]; · iexact HO
    iintro ⟨HA, HO⟩
    iapply Hk
    isplitr [HO]
    · isplitl [Hd]; · iexact Hd
      iexact HA
    iexact HO

/-- A read of a whole buffer gives what the buffer holds and leaves it there. -/
theorem wp_get (c : Dev nD) (D : Defs nD τ sig (Elt F) Λ) (𝒱 : Variants) (E : Set ℕ) {α : Type} {sO : Shape}
    (O : Memref sig .tc .vmem sO .f32) (hwO : O.IsWhole)
    {oO : Fin sO.rank → ℕ} {iO : ∀ a, oO a + sO.size a ≤ sO.size a}
    {hO : O.view.LoadsAt (Rect.unit oO sO.size iO).toLoadRect} (y : Vec F sO .f32)
    (k : Vec F sO .f32 → Prog (TpuEff nD τ sig (Elt F) Λ .tc) α) (K : α → sProp (MT nD τ sig Unit (Elt F) ℕ (UR sig nD τ) ℕ)) :
    iprop(owns (c : Thread nD τ) O fullShare y
        ∗ (owns (c : Thread nD τ) O fullShare y -∗ wp frame (wpE D 𝒱 c none) E (k y) K))
      ⊢ wp frame (wpE D 𝒱 c none) E (Prog.lift (.load O (Rect.unit oO sO.size iO).toLoadRect hO) >>= k) K := by
  unfold owns
  iintro ⟨⟨%g, %hg, HO⟩, Hk⟩
  obtain rfl := hwO.eq_unread hg
  sl_exec
  rw [View.readAt_full, hg]
  iapply Hk
  iexists _; isplitr; · ipureintro; exact hg
  iexact HO

/-- A store over a whole buffer leaves what was stored. -/
theorem wp_put (c : Dev nD) (D : Defs nD τ sig (Elt F) Λ) (𝒱 : Variants) (E : Set ℕ) {α : Type} {sO : Shape}
    (O : Memref sig .tc .vmem sO .f32) (hwO : O.IsWhole)
    {oO : Fin sO.rank → ℕ} {iO : ∀ a, oO a + sO.size a ≤ sO.size a}
    {hs : (O.access (Rect.unit oO sO.size iO)).Stores Finset.univ} (w y : Vec F sO .f32)
    (k : PUnit → Prog (TpuEff nD τ sig (Elt F) Λ .tc) α) (K : α → sProp (MT nD τ sig Unit (Elt F) ℕ (UR sig nD τ) ℕ)) :
    iprop(owns (c : Thread nD τ) O fullShare y
        ∗ (owns (c : Thread nD τ) O fullShare w -∗ wp frame (wpE D 𝒱 c none) E (k ⟨⟩) K))
      ⊢ wp frame (wpE D 𝒱 c none) E (Prog.lift (.store O (Rect.unit oO sO.size iO) w Finset.univ hs (.inl rfl)) >>= k) K := by
  unfold owns
  iintro ⟨⟨%g, %hg, HO⟩, Hk⟩
  sl_exec
  iapply Hk
  iexists (O.view.writes (Elt F) g [⟨Rect.unit oO sO.size iO, w⟩]); isplitr
  · ipureintro; exact View.read_writes_full _ _ _ _ _
  iexact HO

end Cert.Pool
end
-- ==== Proof.Body.lean ====
module

public import proofs.«01_k».proof.Proof.Gen.KernelIdeal.Launch
public import proofs.«01_k».proof.Proof.Gen.KernelIdeal.Skeleton
public import proofs.«01_k».proof.Proof.Step

/-!
# The kernel's body at one grid point

The body reads the point's length, clears the total, runs the sixteen conditional steps and divides. This module names
the pieces (`word`, `live`, `total`, `result`) and proves what the body leaves in its buffers (`wp_body`).
-/

@[expose] public section

set_option maxRecDepth 16384

noncomputable section

namespace Cert.KernelIdeal.Pool

open Cert.KernelIdeal Cert.KernelIdeal.Gen Cert.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- How many rows of block `q` and the blocks after it a length counts: the length less the rows before the block. -/
def word (ln : BitVec 32) (q : ℕ) : BitVec 32 := Scalar.subi ln (BitVec.ofNat 32 (256 * q))

/-- The bit that says whether such a number is positive. -/
def live (r : BitVec 32) : BitVec 1 := Scalar.cmpi .ne (Scalar.extui (Scalar.cmpi .sgt r 0#32) : BitVec 32) 0#32

/-- The total after block `q`, which holds `x`: the rows below the count added, if there are any. -/
def acc (ln : BitVec 32) (q : ℕ) (x : Vec F S1x1x256x1024 .f32) (y : Vec F S1x1x1024 .f32) : Vec F S1x1x1024 .f32 :=
  if live (word ln q) = 1#1 then k0_pay1 (word ln q) x y else y

/-- The total after the first `n` blocks. -/
def total (ln : BitVec 32) (x : ℕ → Vec F S1x1x256x1024 .f32) : ℕ → Vec F S1x1x1024 .f32
  | 0 => k0_pay5
  | n + 1 => acc ln n (x n) (total ln x n)

/-- What the body leaves: the total of the sixteen blocks over the length. -/
def result (ln : BitVec 32) (x : ℕ → Vec F S1x1x256x1024 .f32) : Vec F S1x1x1024 .f32 := k0_pay4 ln (total ln x 16)

/-- The two tables as the body is handed them: whole buffers. -/
abbrev tbl0 : Memref sig .tc .smem S16 .i32 := Memref.whole main_arg1
abbrev tbl1 : Memref sig .tc .smem S16x16 .i32 := Memref.whole main_v15
abbrev htbl0 : tbl0.IsWhole := Memref.isWhole_whole _
abbrev htbl1 : tbl1.IsWhole := Memref.isWhole_whole _

/-- A table's contents on core `c`, and the table held at half the full share: it is only read. -/
abbrev TblBuf (c : Dev nD) {S : Shape} {e : EltTy} (M : Memref sig .tc .smem S e) : Type := Buf (Elt F) (M.view.loc (c : Thread nD τ))
abbrev tblPt (c : Dev nD) {S : Shape} {e : EltTy} (M : Memref sig .tc .smem S e) (f : TblBuf (F := F) c M) : sProp 𝕄 :=
  M.view.loc (c : Thread nD τ) ↦{fullShare.right} f

/-- The length the body reads at point `i`, off the table's contents. -/
def lenAt (c : Dev nD) (i : grid0.Coords) (f : TblBuf (F := F) c tbl0) : BitVec 32 :=
  tbl0.view.readAt (Elt F) (Rect.unit (s := S16) (k0_off17 i) S1.size (k0_off17_inb i)).toLoadRect f (Shape.Idx.first (numel1_S1.symm ▸ Nat.one_pos))

/-- The step over block `q`. -/
def item (ln : BitVec 32) (q : ℕ) (A : Memref sig .tc .vmem S1x1x256x1024 .f32) (hA : A.IsWhole) (x : Vec F S1x1x256x1024 .f32) :
    Item sig F S1x1x256x1024 S1x1x1024 := ⟨live (word ln q), A, hA, k0_pay1 (word ln q), x⟩

/-- The steps of a list over whole blocks, at the corners the body reads and stores at. -/
abbrev run {α : Type} (O : Memref sig .tc .vmem S1x1x1024 .f32) (l : List (Item sig F S1x1x256x1024 S1x1x1024))
    (k : Prog (TpuEff nD τ sig (Elt F) Λ₀ .tc) α) : Prog (TpuEff nD τ sig (Elt F) Λ₀ .tc) α :=
  steps O (oA := ![0, 0, 0, 0]) (oO := ![0, 0, 0]) inb_S1x1x256x1024_S1x1x256x1024_0_0_0_0 inb_S1x1x1024_S1x1x1024_0_0_0
    (fun _ => View.loadsAt_vmem h_S1x1x256x1024) (View.loadsAt_vmem h_S1x1x1024) (View.stores_vmem_bits_univ h_S1x1x1024 rfl) l k

/-- The read of the whole total. -/
abbrev getO (O : Memref sig .tc .vmem S1x1x1024 .f32) : Prog (TpuEff nD τ sig (Elt F) Λ₀ .tc) (Vec F S1x1x1024 .f32) :=
  Prog.lift (.load O (Rect.unit (s := S1x1x1024) ![0, 0, 0] S1x1x1024.size inb_S1x1x1024_S1x1x1024_0_0_0).toLoadRect (View.loadsAt_vmem h_S1x1x1024))

/-- The store over the whole total. -/
abbrev putO (O : Memref sig .tc .vmem S1x1x1024 .f32) (w : Vec F S1x1x1024 .f32) : Prog (TpuEff nD τ sig (Elt F) Λ₀ .tc) PUnit :=
  Prog.lift (.store O (Rect.unit (s := S1x1x1024) ![0, 0, 0] S1x1x1024.size inb_S1x1x1024_S1x1x1024_0_0_0) w Finset.univ
    (View.stores_vmem_bits_univ h_S1x1x1024 rfl) (.inl rfl))

section
variable (i : grid0.Coords) (ln : BitVec 32) (x : ℕ → Vec F S1x1x256x1024 .f32)
  (arg3 : Memref sig .tc .vmem S1x1x256x1024 .f32) (h3 : arg3.IsWhole)
  (arg4 : Memref sig .tc .vmem S1x1x256x1024 .f32) (h4 : arg4.IsWhole)
  (arg5 : Memref sig .tc .vmem S1x1x256x1024 .f32) (h5 : arg5.IsWhole)
  (arg6 : Memref sig .tc .vmem S1x1x256x1024 .f32) (h6 : arg6.IsWhole)
  (arg7 : Memref sig .tc .vmem S1x1x256x1024 .f32) (h7 : arg7.IsWhole)
  (arg8 : Memref sig .tc .vmem S1x1x256x1024 .f32) (h8 : arg8.IsWhole)
  (arg9 : Memref sig .tc .vmem S1x1x256x1024 .f32) (h9 : arg9.IsWhole)
  (arg10 : Memref sig .tc .vmem S1x1x256x1024 .f32) (h10 : arg10.IsWhole)
  (arg11 : Memref sig .tc .vmem S1x1x256x1024 .f32) (h11 : arg11.IsWhole)
  (arg12 : Memref sig .tc .vmem S1x1x256x1024 .f32) (h12 : arg12.IsWhole)
  (arg13 : Memref sig .tc .vmem S1x1x256x1024 .f32) (h13 : arg13.IsWhole)
  (arg14 : Memref sig .tc .vmem S1x1x256x1024 .f32) (h14 : arg14.IsWhole)
  (arg15 : Memref sig .tc .vmem S1x1x256x1024 .f32) (h15 : arg15.IsWhole)
  (arg16 : Memref sig .tc .vmem S1x1x256x1024 .f32) (h16 : arg16.IsWhole)
  (arg17 : Memref sig .tc .vmem S1x1x256x1024 .f32) (h17 : arg17.IsWhole)
  (arg18 : Memref sig .tc .vmem S1x1x256x1024 .f32) (h18 : arg18.IsWhole)
  (arg19 : Memref sig .tc .vmem S1x1x1024 .f32) (h19 : arg19.IsWhole)

/-- The first six steps, the next seven and the last three, with the blocks' buffers. -/
abbrev items1 : List (Item sig F S1x1x256x1024 S1x1x1024) := [item ln 0 arg3 h3 (x 0), item ln 1 arg4 h4 (x 1), item ln 2 arg5 h5 (x 2), item ln 3 arg6 h6 (x 3), item ln 4 arg7 h7 (x 4), item ln 5 arg8 h8 (x 5)]
abbrev items2 : List (Item sig F S1x1x256x1024 S1x1x1024) := [item ln 6 arg9 h9 (x 6), item ln 7 arg10 h10 (x 7), item ln 8 arg11 h11 (x 8), item ln 9 arg12 h12 (x 9), item ln 10 arg13 h13 (x 10), item ln 11 arg14 h14 (x 11), item ln 12 arg15 h15 (x 12)]
abbrev items3 : List (Item sig F S1x1x256x1024 S1x1x1024) := [item ln 13 arg16 h16 (x 13), item ln 14 arg17 h17 (x 14), item ln 15 arg18 h18 (x 15)]

/-- The body's first stretch: the length read, the total cleared, six steps. What the steps' blocks hold is beside the point. -/
theorem part1_eq : k0_part1 (F := F) i tbl0 htbl0 tbl1 htbl1 arg3 h3 arg4 h4 arg5 h5 arg6 h6 arg7 h7 arg8 h8 arg9 h9 arg10 h10 arg11 h11 arg12 h12 arg13 h13 arg14 h14 arg15 h15 arg16 h16 arg17 h17 arg18 h18 arg19 h19
    = smemLoad tbl0 (Rect.unit (s := S16) (k0_off17 i) S1.size (k0_off17_inb i)) numel1_S1 rfl >>= fun ln =>
      getO arg19 >>= fun _ => putO arg19 k0_pay5 >>= fun _ =>
      run arg19 (items1 ln x arg3 h3 arg4 h4 arg5 h5 arg6 h6 arg7 h7 arg8 h8) (pure ⟨ln, word ln 6⟩) := rfl

/-- Its second stretch: seven steps. -/
theorem part2_eq : k0_part2 (F := F) i tbl0 htbl0 tbl1 htbl1 arg3 h3 arg4 h4 arg5 h5 arg6 h6 arg7 h7 arg8 h8 arg9 h9 arg10 h10 arg11 h11 arg12 h12 arg13 h13 arg14 h14 arg15 h15 arg16 h16 arg17 h17 arg18 h18 arg19 h19 ln (word ln 6)
    = run arg19 (items2 ln x arg9 h9 arg10 h10 arg11 h11 arg12 h12 arg13 h13 arg14 h14 arg15 h15) (pure ⟨word ln 13, Scalar.extui (Scalar.cmpi .sgt (word ln 13) 0#32), 0#32⟩) := rfl

variable (c : Dev nD) (E : Set ℕ)

/-- A read of a table's word gives the word and leaves the table. -/
theorem wp_len (f : TblBuf (F := F) c tbl0) {α : Type} (k : Elt F .i32 → Prog (TpuEff nD τ sig (Elt F) Λ₀ .tc) α) (K : α → sProp 𝕄) :
    iprop(tblPt c tbl0 f ∗ (tblPt c tbl0 f -∗ wp frame (wpE (defs₀ (F := F)) Variants.none c none) E (k (lenAt c i f)) K))
      ⊢ wp frame (wpE (defs₀ (F := F)) Variants.none c none) E
          (smemLoad tbl0 (Rect.unit (s := S16) (k0_off17 i) S1.size (k0_off17_inb i)) numel1_S1 rfl >>= k) K := by
  iintro ⟨HT, Hk⟩
  sl_exec
  iapply Hk
  iexact HT

theorem wp_part1 (f : TblBuf (F := F) c tbl0) (y : Vec F S1x1x1024 .f32) (K : (Σ' (_ : Elt F .i32), BitVec 32) → sProp 𝕄) :
    iprop(tblPt c tbl0 f ∗ held nD τ c (items1 (lenAt c i f) x arg3 h3 arg4 h4 arg5 h5 arg6 h6 arg7 h7 arg8 h8) ∗ owns (c : Thread nD τ) arg19 fullShare y
        ∗ (iprop(tblPt c tbl0 f ∗ held nD τ c (items1 (lenAt c i f) x arg3 h3 arg4 h4 arg5 h5 arg6 h6 arg7 h7 arg8 h8)
              ∗ owns (c : Thread nD τ) arg19 fullShare (total (lenAt c i f) x 6)) -∗ K ⟨lenAt c i f, word (lenAt c i f) 6⟩))
      ⊢ wp frame (wpE (defs₀ (F := F)) Variants.none c none) E (k0_part1 (F := F) i tbl0 htbl0 tbl1 htbl1 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  rw [part1_eq i x arg3 h3 arg4 h4 arg5 h5 arg6 h6 arg7 h7 arg8 h8 arg9 h9 arg10 h10 arg11 h11 arg12 h12 arg13 h13 arg14 h14 arg15 h15 arg16 h16 arg17 h17 arg18 h18 arg19 h19]
  iintro ⟨HT, HA, HO, Hk⟩
  iapply wp_len i c E f
  isplitl [HT]; · iexact HT
  iintro HT
  iapply wp_get c _ _ E arg19 h19 y
  isplitl [HO]; · iexact HO
  iintro HO
  iapply wp_put c _ _ E arg19 h19 k0_pay5 y
  isplitl [HO]; · iexact HO
  iintro HO
  iapply wp_steps c _ _ E arg19 h19 (items1 (lenAt c i f) x arg3 h3 arg4 h4 arg5 h5 arg6 h6 arg7 h7 arg8 h8) k0_pay5
  isplitl [HA]; · iexact HA
  isplitl [HO]; · iexact HO
  iintro ⟨HA, HO⟩
  sl_step
  iapply Hk
  isplitl [HT]; · iexact HT
  isplitl [HA]; · iexact HA
  iexact HO

/-- The second stretch: the total taken from six blocks to thirteen. -/
theorem wp_part2 (K : (Σ' (_ : BitVec 32) (_ : BitVec 32), BitVec 32) → sProp 𝕄) :
    iprop(held nD τ c (items2 ln x arg9 h9 arg10 h10 arg11 h11 arg12 h12 arg13 h13 arg14 h14 arg15 h15) ∗ owns (c : Thread nD τ) arg19 fullShare (total ln x 6)
        ∗ (iprop(held nD τ c (items2 ln x arg9 h9 arg10 h10 arg11 h11 arg12 h12 arg13 h13 arg14 h14 arg15 h15) ∗ owns (c : Thread nD τ) arg19 fullShare (total ln x 13))
            -∗ K ⟨word ln 13, Scalar.extui (Scalar.cmpi .sgt (word ln 13) 0#32), 0#32⟩))
      ⊢ wp frame (wpE (defs₀ (F := F)) Variants.none c none) E
          (k0_part2 (F := F) i tbl0 htbl0 tbl1 htbl1 arg3 h3 arg4 h4 arg5 h5 arg6 h6 arg7 h7 arg8 h8 arg9 h9 arg10 h10 arg11 h11 arg12 h12 arg13 h13 arg14 h14 arg15 h15 arg16 h16 arg17 h17 arg18 h18 arg19 h19 ln (word ln 6)) K := by
  rw [part2_eq i ln x arg3 h3 arg4 h4 arg5 h5 arg6 h6 arg7 h7 arg8 h8 arg9 h9 arg10 h10 arg11 h11 arg12 h12 arg13 h13 arg14 h14 arg15 h15 arg16 h16 arg17 h17 arg18 h18 arg19 h19]
  iintro ⟨HA, HO, Hk⟩
  iapply wp_steps c _ _ E arg19 h19 (items2 ln x arg9 h9 arg10 h10 arg11 h11 arg12 h12 arg13 h13 arg14 h14 arg15 h15) (total ln x 6)
  isplitl [HA]; · iexact HA
  isplitl [HO]; · iexact HO
  iintro ⟨HA, HO⟩
  sl_step
  iapply Hk
  isplitl [HA]; · iexact HA
  iexact HO

/-- What follows the first stretch, from the length and the seventh word: the second stretch, three more steps and the division. -/
def rest (w : BitVec 32) : Prog (TpuEff nD τ sig (Elt F) Λ₀ .tc) PUnit :=
  k0_part2 (F := F) i tbl0 htbl0 tbl1 htbl1 arg3 h3 arg4 h4 arg5 h5 arg6 h6 arg7 h7 arg8 h8 arg9 h9 arg10 h10 arg11 h11 arg12 h12 arg13 h13 arg14 h14 arg15 h15 arg16 h16 arg17 h17 arg18 h18 arg19 h19 ln w >>= fun r =>
  step (Scalar.cmpi .ne r.2.1 r.2.2) arg16 arg19 inb_S1x1x256x1024_S1x1x256x1024_0_0_0_0 inb_S1x1x1024_S1x1x1024_0_0_0
    (View.loadsAt_vmem h_S1x1x256x1024) (View.loadsAt_vmem h_S1x1x1024) (View.stores_vmem_bits_univ h_S1x1x1024 rfl) (k0_pay1 r.1)
    (run arg19 [item ln 14 arg17 h17 (x 14), item ln 15 arg18 h18 (x 15)]
      (getO arg19 >>= fun y => getO arg19 >>= fun _ => putO arg19 (k0_pay4 ln y) >>= fun _ => pure ⟨⟩))

/-- The body is its first stretch and the rest. -/
theorem body_eq : cc0__body (F := F) i tbl0 htbl0 tbl1 htbl1 arg3 h3 arg4 h4 arg5 h5 arg6 h6 arg7 h7 arg8 h8 arg9 h9 arg10 h10 arg11 h11 arg12 h12 arg13 h13 arg14 h14 arg15 h15 arg16 h16 arg17 h17 arg18 h18 arg19 h19
    = k0_part1 (F := F) i tbl0 htbl0 tbl1 htbl1 arg3 h3 arg4 h4 arg5 h5 arg6 h6 arg7 h7 arg8 h8 arg9 h9 arg10 h10 arg11 h11 arg12 h12 arg13 h13 arg14 h14 arg15 h15 arg16 h16 arg17 h17 arg18 h18 arg19 h19 >>= fun r => rest i r.1 x arg3 h3 arg4 h4 arg5 h5 arg6 h6 arg7 h7 arg8 h8 arg9 h9 arg10 h10 arg11 h11 arg12 h12 arg13 h13 arg14 h14 arg15 h15 arg16 h16 arg17 h17 arg18 h18 arg19 h19 r.2 := rfl

/-- The rest, from the total of six blocks: the point's result. -/
theorem wp_rest (K : PUnit → sProp 𝕄) :
    iprop(held nD τ c (items2 ln x arg9 h9 arg10 h10 arg11 h11 arg12 h12 arg13 h13 arg14 h14 arg15 h15) ∗ held nD τ c (items3 ln x arg16 h16 arg17 h17 arg18 h18)
        ∗ owns (c : Thread nD τ) arg19 fullShare (total ln x 6)
        ∗ (iprop(held nD τ c (items2 ln x arg9 h9 arg10 h10 arg11 h11 arg12 h12 arg13 h13 arg14 h14 arg15 h15) ∗ held nD τ c (items3 ln x arg16 h16 arg17 h17 arg18 h18)
              ∗ owns (c : Thread nD τ) arg19 fullShare (result ln x)) -∗ K ⟨⟩))
      ⊢ wp frame (wpE (defs₀ (F := F)) Variants.none c none) E (rest i ln x arg3 h3 arg4 h4 arg5 h5 arg6 h6 arg7 h7 arg8 h8 arg9 h9 arg10 h10 arg11 h11 arg12 h12 arg13 h13 arg14 h14 arg15 h15 arg16 h16 arg17 h17 arg18 h18 arg19 h19 (word ln 6)) K := by
  unfold rest
  rw [wp_bind]
  iintro ⟨HA, HB, HO, Hk⟩
  iapply wp_part2 i ln x arg3 h3 arg4 h4 arg5 h5 arg6 h6 arg7 h7 arg8 h8 arg9 h9 arg10 h10 arg11 h11 arg12 h12 arg13 h13 arg14 h14 arg15 h15 arg16 h16 arg17 h17 arg18 h18 arg19 h19 c E
  isplitl [HA]; · iexact HA
  isplitl [HO]; · iexact HO
  iintro ⟨HA, HO⟩
  iapply wp_steps c (defs₀ (F := F)) Variants.none E arg19 h19 (items3 ln x arg16 h16 arg17 h17 arg18 h18) (total ln x 13)
    (oA := ![0, 0, 0, 0]) (oO := ![0, 0, 0]) (iA := inb_S1x1x256x1024_S1x1x256x1024_0_0_0_0) (iO := inb_S1x1x1024_S1x1x1024_0_0_0)
    (hA := fun _ => View.loadsAt_vmem h_S1x1x256x1024) (hO := View.loadsAt_vmem h_S1x1x1024) (hs := View.stores_vmem_bits_univ h_S1x1x1024 rfl)
    (getO arg19 >>= fun y => getO arg19 >>= fun _ => putO arg19 (k0_pay4 ln y) >>= fun _ => pure ⟨⟩) K
  isplitl [HB]; · iexact HB
  isplitl [HO]; · iexact HO
  iintro ⟨HB, HO⟩
  iapply wp_get c _ _ E arg19 h19 (total ln x 16)
  isplitl [HO]; · iexact HO
  iintro HO
  iapply wp_get c _ _ E arg19 h19 (total ln x 16)
  isplitl [HO]; · iexact HO
  iintro HO
  iapply wp_put c _ _ E arg19 h19 (k0_pay4 ln (total ln x 16)) (total ln x 16)
  isplitl [HO]; · iexact HO
  iintro HO
  sl_step
  iapply Hk
  isplitl [HA]; · iexact HA
  isplitl [HB]; · iexact HB
  iexact HO

/-- What the body leaves in its buffers at point `i`: the sixteen blocks and the tables as they were, and in the total's buffer
    the point's result. -/
theorem wp_body (f : TblBuf (F := F) c tbl0) (f' : TblBuf (F := F) c tbl1) (K : PUnit → sProp 𝕄) :
    iprop(owns (c : Thread nD τ) arg3 fullShare (x 0) ∗ owns (c : Thread nD τ) arg4 fullShare (x 1) ∗ owns (c : Thread nD τ) arg5 fullShare (x 2) ∗ owns (c : Thread nD τ) arg6 fullShare (x 3) ∗ owns (c : Thread nD τ) arg7 fullShare (x 4) ∗ owns (c : Thread nD τ) arg8 fullShare (x 5) ∗ owns (c : Thread nD τ) arg9 fullShare (x 6) ∗ owns (c : Thread nD τ) arg10 fullShare (x 7) ∗ owns (c : Thread nD τ) arg11 fullShare (x 8) ∗ owns (c : Thread nD τ) arg12 fullShare (x 9) ∗ owns (c : Thread nD τ) arg13 fullShare (x 10) ∗ owns (c : Thread nD τ) arg14 fullShare (x 11) ∗ owns (c : Thread nD τ) arg15 fullShare (x 12) ∗ owns (c : Thread nD τ) arg16 fullShare (x 13) ∗ owns (c : Thread nD τ) arg17 fullShare (x 14) ∗ owns (c : Thread nD τ) arg18 fullShare (x 15)
        ∗ (∃ y, owns (c : Thread nD τ) arg19 fullShare y) ∗ tblPt c tbl0 f ∗ tblPt c tbl1 f'
        ∗ (iprop(owns (c : Thread nD τ) arg3 fullShare (x 0) ∗ owns (c : Thread nD τ) arg4 fullShare (x 1) ∗ owns (c : Thread nD τ) arg5 fullShare (x 2) ∗ owns (c : Thread nD τ) arg6 fullShare (x 3) ∗ owns (c : Thread nD τ) arg7 fullShare (x 4) ∗ owns (c : Thread nD τ) arg8 fullShare (x 5) ∗ owns (c : Thread nD τ) arg9 fullShare (x 6) ∗ owns (c : Thread nD τ) arg10 fullShare (x 7) ∗ owns (c : Thread nD τ) arg11 fullShare (x 8) ∗ owns (c : Thread nD τ) arg12 fullShare (x 9) ∗ owns (c : Thread nD τ) arg13 fullShare (x 10) ∗ owns (c : Thread nD τ) arg14 fullShare (x 11) ∗ owns (c : Thread nD τ) arg15 fullShare (x 12) ∗ owns (c : Thread nD τ) arg16 fullShare (x 13) ∗ owns (c : Thread nD τ) arg17 fullShare (x 14) ∗ owns (c : Thread nD τ) arg18 fullShare (x 15)
            ∗ owns (c : Thread nD τ) arg19 fullShare (result (lenAt c i f) x) ∗ tblPt c tbl0 f ∗ tblPt c tbl1 f') -∗ K ⟨⟩))
      ⊢ wp frame (wpE (defs₀ (F := F)) Variants.none c none) E
          (cc0__body (F := F) i tbl0 htbl0 tbl1 htbl1 arg3 h3 arg4 h4 arg5 h5 arg6 h6 arg7 h7 arg8 h8 arg9 h9 arg10 h10 arg11 h11 arg12 h12 arg13 h13 arg14 h14 arg15 h15 arg16 h16 arg17 h17 arg18 h18 arg19 h19) K := by
  rw [body_eq i x arg3 h3 arg4 h4 arg5 h5 arg6 h6 arg7 h7 arg8 h8 arg9 h9 arg10 h10 arg11 h11 arg12 h12 arg13 h13 arg14 h14 arg15 h15 arg16 h16 arg17 h17 arg18 h18 arg19 h19, wp_bind]
  iintro ⟨H0, H1, H2, H3, H4, H5, H6, H7, H8, H9, H10, H11, H12, H13, H14, H15, ⟨%y, HO⟩, HT, HT', Hk⟩
  iapply wp_part1 i x arg3 h3 arg4 h4 arg5 h5 arg6 h6 arg7 h7 arg8 h8 arg9 h9 arg10 h10 arg11 h11 arg12 h12 arg13 h13 arg14 h14 arg15 h15 arg16 h16 arg17 h17 arg18 h18 arg19 h19 c E f y
  isplitl [HT]; · iexact HT
  isplitl [H0 H1 H2 H3 H4 H5]
  · simp only [held, List.foldr, item]
    iframe
  isplitl [HO]; · iexact HO
  iintro ⟨HT, HA1, HO⟩
  iapply wp_rest i (lenAt c i f) x arg3 h3 arg4 h4 arg5 h5 arg6 h6 arg7 h7 arg8 h8 arg9 h9 arg10 h10 arg11 h11 arg12 h12 arg13 h13 arg14 h14 arg15 h15 arg16 h16 arg17 h17 arg18 h18 arg19 h19 c E
  isplitl [H6 H7 H8 H9 H10 H11 H12]
  · simp only [held, List.foldr, item]
    iframe
  isplitl [H13 H14 H15]
  · simp only [held, List.foldr, item]
    iframe
  isplitl [HO]; · iexact HO
  iintro ⟨HA2, HA3, HO⟩
  simp only [held, List.foldr, item]
  icases HA1 with ⟨H0, H1, H2, H3, H4, H5, -⟩
  icases HA2 with ⟨H6, H7, H8, H9, H10, H11, H12, -⟩
  icases HA3 with ⟨H13, H14, H15, -⟩
  iapply Hk
  iframe

end

end Cert.KernelIdeal.Pool
end
-- ==== Proof.Launch.lean ====
module

public import proofs.«01_k».proof.Proof.Body
public import Idealize.ShloMosaic.Lib.Pipeline.FrameSuffix

/-!
# The launch

The arrays and tables as the pipeline finds them, what each window's buffer holds before and after every grid point, and
the run of the whole program, under the condition (`Ok`) that the tables name blocks inside the array.
-/

@[expose] public section

set_option maxRecDepth 16384

noncomputable section

namespace Cert.KernelIdeal.Pool

open Cert.KernelIdeal Cert.KernelIdeal.Gen Cert.Pool
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the pipeline -/

/-- The host's operations before the pipeline, in order. -/
abbrev pre : List (HloOp τ sig (Elt F)) := List.flatten [hostOps0, hostOps0_1, hostOps0_2, hostOps0_3]

/-- Every buffer of core `c` as the pipeline finds it, and one buffer of it. -/
abbrev V0 (c : Dev nD) : Valuation τ sig (Elt F) := StableHlo.after pre (fun b => m (c, b))
abbrev V (c : Dev nD) (b : Ref sig .tc) : Buf (Elt F) ((c : Thread nD τ).loc b) := V0 m c (Proc.devRef .tc b)

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

set_option maxHeartbeats 800000 in
/-- The program is the host's operations before the pipeline, the pipeline, and the host's operations after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨fresh0, fresh0_1, fresh0_2, fresh0_3⟩) main_chain

/-- The operations after the pipeline touch neither table, -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl
  intro j; fin_cases j <;> simp only [StableHlo.unary_bufs, StableHlo.reshape_bufs, Finset.mem_insert, Finset.mem_singleton, not_or] <;>
    and_intros <;> exact StableHlo.devRef_ne_of_ne (by decide)

/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp fresh1) op hop

/-- and write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  simp only [StableHlo.unary_writes, StableHlo.reshape_writes, Finset.mem_singleton]
  exact StableHlo.devRef_ne_of_ne ((by decide : ∀ w, Pipeline.arrRef spec0 w ≠ main_v17) w)

/-- The operations before the pipeline write neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, StableHlo.binaryIndexed_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.reshape_writes, StableHlo.binaryIndexed_writes, Finset.mem_singleton]
    repeat' apply And.intro
    all_goals exact StableHlo.devRef_ne_of_ne (by decide)))

/-! ## The tables -/

/-- The tables' contents as the pipeline finds them. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- The tables name blocks inside the array. -/
abbrev Ok : Prop := ok0 (F := F) (tbl m)
/-- The pipeline at the tables. -/
abbrev adm (hO : Ok m) : (pcfg0 (F := F)).Adm := ⟨tbl m, hO⟩
abbrev cfgM (hO : Ok m) : Pipeline.Cfg sig Λ₀ := cfg0 (adm m hO)

theorem ΦT_eq (c : Dev nD) : (Pipeline.ΦT pre0 (tbl m) c : sProp 𝕄) = iprop(tblPt c tbl0 (tbl m 0) ∗ tblPt c tbl1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The blocks of an array that the sixteen input windows stage at point `t`. -/
def parts (a : (pcfg0 (F := F)).Adm) (arr : S16x16x256x1024.Idx → Elt F .f32) (t : Fin (cfg0 a).N) : ℕ → Vec F S1x1x256x1024 .f32
  | 0 => (((cfg0 a).win 0).blk t).view.read (Elt F) arr
  | 1 => (((cfg0 a).win 1).blk t).view.read (Elt F) arr
  | 2 => (((cfg0 a).win 2).blk t).view.read (Elt F) arr
  | 3 => (((cfg0 a).win 3).blk t).view.read (Elt F) arr
  | 4 => (((cfg0 a).win 4).blk t).view.read (Elt F) arr
  | 5 => (((cfg0 a).win 5).blk t).view.read (Elt F) arr
  | 6 => (((cfg0 a).win 6).blk t).view.read (Elt F) arr
  | 7 => (((cfg0 a).win 7).blk t).view.read (Elt F) arr
  | 8 => (((cfg0 a).win 8).blk t).view.read (Elt F) arr
  | 9 => (((cfg0 a).win 9).blk t).view.read (Elt F) arr
  | 10 => (((cfg0 a).win 10).blk t).view.read (Elt F) arr
  | 11 => (((cfg0 a).win 11).blk t).view.read (Elt F) arr
  | 12 => (((cfg0 a).win 12).blk t).view.read (Elt F) arr
  | 13 => (((cfg0 a).win 13).blk t).view.read (Elt F) arr
  | 14 => (((cfg0 a).win 14).blk t).view.read (Elt F) arr
  | 15 => (((cfg0 a).win 15).blk t).view.read (Elt F) arr
  | _ => (((cfg0 a).win 15).blk t).view.read (Elt F) arr

/-- The sixteen input windows' blocks at point `t`. -/
def blocks (hO : Ok m) (c : Dev nD) (t : Fin (cfgM m hO).N) : ℕ → Vec F S1x1x256x1024 .f32 := parts (adm m hO) (V m c main_v1) t

/-- The length the body reads at point `t`. -/
abbrev len (hO : Ok m) (c : Dev nD) (t : Fin (cfgM m hO).N) : BitVec 32 := lenAt (F := F) c (grid0.coords t) (tbl m 0)

/-- The pipeline's proof data: the arrays as found; after every point each input's buffer at its block and the output's at the
    point's result. -/
def dats (hO : Ok m) (_ : Fin 1) (c : Dev nD) : Dat τ (Elt F) Unit ℕ (UR sig nD τ) ℕ (cfgM m hO) c where
  A w := V m c (Pipeline.arrRef spec0 w)
  after w t := Function.update (β := fun w : Fin 17 => (((cfgM m hO).win w).xblock ((cfgM m hO).grid.coords t)).Idx → Elt F ((cfgM m hO).win w).elt)
    (fun w => iblk m hO c w t) 16 (result (len m hO c t) (blocks m hO c t)) w
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

/-- The body leaves every input's buffer as it was, -/
theorem after_in (hO : Ok m) (c : Dev nD) (t : Fin (cfgM m hO).N) (w : Fin 17) (hw : w ≠ 16) : (dats m hO 0 c).after w t = iblk m hO c w t := by
  dsimp only [dats]; exact Function.update_of_ne hw _ _
/-- and the point's result in the output's. -/
theorem after_out (hO : Ok m) (c : Dev nD) (t : Fin (cfgM m hO).N) : (dats m hO 0 c).after 16 t = result (len m hO c t) (blocks m hO c t) := by
  dsimp only [dats]; exact Function.update_self _ _ _

theorem isIn : ∀ w : Fin 17, w ≠ 16 → (spec0 w).isOut = false := by decide

/-- Before every point each input's buffer holds its block, fetched there or kept from the point before. -/
theorem before_in (hO : Ok m) (c : Dev nD) (t : Fin (cfgM m hO).N) (w : Fin 17) (hw : w ≠ 16) (d) :
    (dats m hO 0 c).before w t d = iblk m hO c w t := by
  have key : ∀ t, (dats m hO 0 c).after w t = (dats m hO 0 c).blockOf w t := fun t => by
    rw [after_in m hO c t w hw]; unfold Dat.blockOf iblk; rw [A_eq]
  exact ((dats m hO 0 c).before_in_eq_fetched w (isIn w hw) (fun _ => rfl) (fun _ _ _ => rfl) key t d).trans
    (by unfold Dat.fetched Dat.blockOf iblk; rw [A_eq]; fin_cases w <;> first | rfl | exact absurd rfl hw)

/-! ## The body at one point -/

/-- The body at point `t`, on the buffers of that point. -/
abbrev bodyAt (hO : Ok m) (t : Fin (cfgM m hO).N) :=
  cc0__body (F := F) (grid0.coords t) tbl0 htbl0 tbl1 htbl1
      (spec0_0.stage ((cfgM m hO).slots t 0)) (hstage0_0 (((cfgM m hO).slots t 0).cast nbuf0_0))
      (spec0_1.stage ((cfgM m hO).slots t 1)) (hstage0_1 (((cfgM m hO).slots t 1).cast nbuf0_1))
      (spec0_2.stage ((cfgM m hO).slots t 2)) (hstage0_2 (((cfgM m hO).slots t 2).cast nbuf0_2))
      (spec0_3.stage ((cfgM m hO).slots t 3)) (hstage0_3 (((cfgM m hO).slots t 3).cast nbuf0_3))
      (spec0_4.stage ((cfgM m hO).slots t 4)) (hstage0_4 (((cfgM m hO).slots t 4).cast nbuf0_4))
      (spec0_5.stage ((cfgM m hO).slots t 5)) (hstage0_5 (((cfgM m hO).slots t 5).cast nbuf0_5))
      (spec0_6.stage ((cfgM m hO).slots t 6)) (hstage0_6 (((cfgM m hO).slots t 6).cast nbuf0_6))
      (spec0_7.stage ((cfgM m hO).slots t 7)) (hstage0_7 (((cfgM m hO).slots t 7).cast nbuf0_7))
      (spec0_8.stage ((cfgM m hO).slots t 8)) (hstage0_8 (((cfgM m hO).slots t 8).cast nbuf0_8))
      (spec0_9.stage ((cfgM m hO).slots t 9)) (hstage0_9 (((cfgM m hO).slots t 9).cast nbuf0_9))
      (spec0_10.stage ((cfgM m hO).slots t 10)) (hstage0_10 (((cfgM m hO).slots t 10).cast nbuf0_10))
      (spec0_11.stage ((cfgM m hO).slots t 11)) (hstage0_11 (((cfgM m hO).slots t 11).cast nbuf0_11))
      (spec0_12.stage ((cfgM m hO).slots t 12)) (hstage0_12 (((cfgM m hO).slots t 12).cast nbuf0_12))
      (spec0_13.stage ((cfgM m hO).slots t 13)) (hstage0_13 (((cfgM m hO).slots t 13).cast nbuf0_13))
      (spec0_14.stage ((cfgM m hO).slots t 14)) (hstage0_14 (((cfgM m hO).slots t 14).cast nbuf0_14))
      (spec0_15.stage ((cfgM m hO).slots t 15)) (hstage0_15 (((cfgM m hO).slots t 15).cast nbuf0_15))
      (spec0_16.stage ((cfgM m hO).slots t 16)) (hstage0_16 (((cfgM m hO).slots t 16).cast nbuf0_16))

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d))
    ∗ (∃ d, owns (c : Thread nD τ) (spec0_7.stage ((cfgM m hO).slots t 7)) fullShare ((dats m hO 0 c).before 7 t d))
    ∗ (∃ d, owns (c : Thread nD τ) (spec0_8.stage ((cfgM m hO).slots t 8)) fullShare ((dats m hO 0 c).before 8 t d))
    ∗ (∃ d, owns (c : Thread nD τ) (spec0_9.stage ((cfgM m hO).slots t 9)) fullShare ((dats m hO 0 c).before 9 t d))
    ∗ (∃ d, owns (c : Thread nD τ) (spec0_10.stage ((cfgM m hO).slots t 10)) fullShare ((dats m hO 0 c).before 10 t d))
    ∗ (∃ d, owns (c : Thread nD τ) (spec0_11.stage ((cfgM m hO).slots t 11)) fullShare ((dats m hO 0 c).before 11 t d))
    ∗ (∃ d, owns (c : Thread nD τ) (spec0_12.stage ((cfgM m hO).slots t 12)) fullShare ((dats m hO 0 c).before 12 t d))
    ∗ (∃ d, owns (c : Thread nD τ) (spec0_13.stage ((cfgM m hO).slots t 13)) fullShare ((dats m hO 0 c).before 13 t d))
    ∗ (∃ d, owns (c : Thread nD τ) (spec0_14.stage ((cfgM m hO).slots t 14)) fullShare ((dats m hO 0 c).before 14 t d))
    ∗ (∃ d, owns (c : Thread nD τ) (spec0_15.stage ((cfgM m hO).slots t 15)) fullShare ((dats m hO 0 c).before 15 t d))
    ∗ (∃ d, owns (c : Thread nD τ) (spec0_16.stage ((cfgM m hO).slots t 16)) fullShare ((dats m hO 0 c).before 16 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t)
    ∗ owns (c : Thread nD τ) (spec0_7.stage ((cfgM m hO).slots t 7)) fullShare ((dats m hO 0 c).after 7 t)
    ∗ owns (c : Thread nD τ) (spec0_8.stage ((cfgM m hO).slots t 8)) fullShare ((dats m hO 0 c).after 8 t)
    ∗ owns (c : Thread nD τ) (spec0_9.stage ((cfgM m hO).slots t 9)) fullShare ((dats m hO 0 c).after 9 t)
    ∗ owns (c : Thread nD τ) (spec0_10.stage ((cfgM m hO).slots t 10)) fullShare ((dats m hO 0 c).after 10 t)
    ∗ owns (c : Thread nD τ) (spec0_11.stage ((cfgM m hO).slots t 11)) fullShare ((dats m hO 0 c).after 11 t)
    ∗ owns (c : Thread nD τ) (spec0_12.stage ((cfgM m hO).slots t 12)) fullShare ((dats m hO 0 c).after 12 t)
    ∗ owns (c : Thread nD τ) (spec0_13.stage ((cfgM m hO).slots t 13)) fullShare ((dats m hO 0 c).after 13 t)
    ∗ owns (c : Thread nD τ) (spec0_14.stage ((cfgM m hO).slots t 14)) fullShare ((dats m hO 0 c).after 14 t)
    ∗ owns (c : Thread nD τ) (spec0_15.stage ((cfgM m hO).slots t 15)) fullShare ((dats m hO 0 c).after 15 t)
    ∗ owns (c : Thread nD τ) (spec0_16.stage ((cfgM m hO).slots t 16)) fullShare ((dats m hO 0 c).after 16 t))

set_option maxHeartbeats 1600000 in
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [show ∀ d, (dats m hO 0 c).before 0 t d = iblk m hO c 0 t from before_in m hO c t 0 (by decide),
    show ∀ d, (dats m hO 0 c).before 1 t d = iblk m hO c 1 t from before_in m hO c t 1 (by decide),
    show ∀ d, (dats m hO 0 c).before 2 t d = iblk m hO c 2 t from before_in m hO c t 2 (by decide),
    show ∀ d, (dats m hO 0 c).before 3 t d = iblk m hO c 3 t from before_in m hO c t 3 (by decide),
    show ∀ d, (dats m hO 0 c).before 4 t d = iblk m hO c 4 t from before_in m hO c t 4 (by decide),
    show ∀ d, (dats m hO 0 c).before 5 t d = iblk m hO c 5 t from before_in m hO c t 5 (by decide),
    show ∀ d, (dats m hO 0 c).before 6 t d = iblk m hO c 6 t from before_in m hO c t 6 (by decide),
    show ∀ d, (dats m hO 0 c).before 7 t d = iblk m hO c 7 t from before_in m hO c t 7 (by decide),
    show ∀ d, (dats m hO 0 c).before 8 t d = iblk m hO c 8 t from before_in m hO c t 8 (by decide),
    show ∀ d, (dats m hO 0 c).before 9 t d = iblk m hO c 9 t from before_in m hO c t 9 (by decide),
    show ∀ d, (dats m hO 0 c).before 10 t d = iblk m hO c 10 t from before_in m hO c t 10 (by decide),
    show ∀ d, (dats m hO 0 c).before 11 t d = iblk m hO c 11 t from before_in m hO c t 11 (by decide),
    show ∀ d, (dats m hO 0 c).before 12 t d = iblk m hO c 12 t from before_in m hO c t 12 (by decide),
    show ∀ d, (dats m hO 0 c).before 13 t d = iblk m hO c 13 t from before_in m hO c t 13 (by decide),
    show ∀ d, (dats m hO 0 c).before 14 t d = iblk m hO c 14 t from before_in m hO c t 14 (by decide),
    show ∀ d, (dats m hO 0 c).before 15 t d = iblk m hO c 15 t from before_in m hO c t 15 (by decide)]
  rw [show (dats m hO 0 c).Φ t.succ = (dats m hO 0 c).Φ t.castSucc from rfl,
    show (dats m hO 0 c).owesAt () t.succ = (dats m hO 0 c).owesAt () t.castSucc from rfl,
    after_in m hO c t 0 (by decide), after_in m hO c t 1 (by decide), after_in m hO c t 2 (by decide), after_in m hO c t 3 (by decide), after_in m hO c t 4 (by decide), after_in m hO c t 5 (by decide), after_in m hO c t 6 (by decide), after_in m hO c t 7 (by decide), after_in m hO c t 8 (by decide), after_in m hO c t 9 (by decide), after_in m hO c t 10 (by decide), after_in m hO c t 11 (by decide), after_in m hO c t 12 (by decide), after_in m hO c t 13 (by decide), after_in m hO c t 14 (by decide), after_in m hO c t 15 (by decide), after_out m hO c t]
  rw [show (dats m hO 0 c).Φ t.castSucc = iprop(Pipeline.ΦA spec0 c ∗ Pipeline.ΦT pre0 (tbl m) c) from rfl, ΦT_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (wp_body (grid0.coords t) (blocks m hO c t)
      (spec0_0.stage ((cfgM m hO).slots t 0)) (hstage0_0 (((cfgM m hO).slots t 0).cast nbuf0_0))
      (spec0_1.stage ((cfgM m hO).slots t 1)) (hstage0_1 (((cfgM m hO).slots t 1).cast nbuf0_1))
      (spec0_2.stage ((cfgM m hO).slots t 2)) (hstage0_2 (((cfgM m hO).slots t 2).cast nbuf0_2))
      (spec0_3.stage ((cfgM m hO).slots t 3)) (hstage0_3 (((cfgM m hO).slots t 3).cast nbuf0_3))
      (spec0_4.stage ((cfgM m hO).slots t 4)) (hstage0_4 (((cfgM m hO).slots t 4).cast nbuf0_4))
      (spec0_5.stage ((cfgM m hO).slots t 5)) (hstage0_5 (((cfgM m hO).slots t 5).cast nbuf0_5))
      (spec0_6.stage ((cfgM m hO).slots t 6)) (hstage0_6 (((cfgM m hO).slots t 6).cast nbuf0_6))
      (spec0_7.stage ((cfgM m hO).slots t 7)) (hstage0_7 (((cfgM m hO).slots t 7).cast nbuf0_7))
      (spec0_8.stage ((cfgM m hO).slots t 8)) (hstage0_8 (((cfgM m hO).slots t 8).cast nbuf0_8))
      (spec0_9.stage ((cfgM m hO).slots t 9)) (hstage0_9 (((cfgM m hO).slots t 9).cast nbuf0_9))
      (spec0_10.stage ((cfgM m hO).slots t 10)) (hstage0_10 (((cfgM m hO).slots t 10).cast nbuf0_10))
      (spec0_11.stage ((cfgM m hO).slots t 11)) (hstage0_11 (((cfgM m hO).slots t 11).cast nbuf0_11))
      (spec0_12.stage ((cfgM m hO).slots t 12)) (hstage0_12 (((cfgM m hO).slots t 12).cast nbuf0_12))
      (spec0_13.stage ((cfgM m hO).slots t 13)) (hstage0_13 (((cfgM m hO).slots t 13).cast nbuf0_13))
      (spec0_14.stage ((cfgM m hO).slots t 14)) (hstage0_14 (((cfgM m hO).slots t 14).cast nbuf0_14))
      (spec0_15.stage ((cfgM m hO).slots t 15)) (hstage0_15 (((cfgM m hO).slots t 15).cast nbuf0_15))
      (spec0_16.stage ((cfgM m hO).slots t 16)) (hstage0_16 (((cfgM m hO).slots t 16).cast nbuf0_16))
      c Set.univ (tbl m 0) (tbl m 1) (fun _ => _))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HT0]; · iexact HT0
  isplitl [HT1]; · iexact HT1
  iintro ⟨H0, H1, H2, H3, H4, H5, H6, H7, H8, H9, H10, H11, H12, H13, H14, H15, H16, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body keeps its part of the pipeline's promise at every point. -/
theorem body_ok (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

set_option backward.isDefEq.respectTransparency.types false in
set_option maxHeartbeats 800000 in
/-- Every run ends, with every array of the pipeline at what the points' results make of it, every other buffer as the host's
    last operations leave it, and every semaphore's counter at zero. -/
theorem run_main (hO : Ok m) : θ_run defs (onTc (τ := τ) (main (F := F))) ⟨m, fun _ => 0, ρ⟩ (fun r =>
    (Pipeline.FramePost (Pipeline.pin pcfgs fun _ => adm m hO) (dats m hO) 0
      (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_ok m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- An argument array that the host writes neither before the pipeline nor after it ends as launched. -/
theorem tail_keeps (hO : Ok m) (c : Dev nD) (b : Ref sig .tc) (hb : ∀ w, Pipeline.arrRef spec0 w ≠ b) (hb' : b ≠ main_v17)
    (hV : V m c b = m ((c : Thread nD τ).loc b)) :
    Pipeline.afterTail pcfgs (fun _ => adm m hO) (dats m hO) 0 (V0 m) [hostOps1] c b = m ((c : Thread nD τ).loc b) := by
  unfold Pipeline.afterTail
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb')),
    Pipeline.withArrays_of_ne _ c (V0 m c) _ b hb]
  exact hV

/-- The arguments end as launched and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_arg0 (by decide : main_arg0 ∈ Pipeline.restRefs sig spec0)).trans (tail_keeps m hO c _ (by decide) (by decide) (V_arg0 m c)),
      ((h.1 c).2 main_arg1 (by decide : main_arg1 ∈ Pipeline.restRefs sig spec0)).trans (tail_keeps m hO c _ (by decide) (by decide) (V_arg1 m c))⟩,
    h.2⟩) (run_main m ρ hO)

end Cert.KernelIdeal.Pool
end
-- ==== Proof.RunningMax.lean ====
module

public import Idealize.ShloMosaic.Lib.WordCmp
public import Idealize.ShloMosaic.PureOps.Contract

/-!
# A running maximum of words, along the rows of a matrix

The host takes a running maximum as a window as long as the row that ends at the entry. Its value is at most every bound of the
entries up to there, and at least each of them.
-/

@[expose] public section

namespace Cert.Pool

open Idealize.ShloMosaic

theorem toInt_maxsi (x y : BitVec 32) : (IntOp.maxsi x y).toInt = max x.toInt y.toInt := by
  unfold IntOp.maxsi
  rw [BitVec.slt]
  by_cases h : y.toInt < x.toInt
  · rw [if_pos (decide_eq_true h)]; omega
  · rw [if_neg (by simpa using h)]; omega

/-- A maximum taken along a list is at most every bound of its start and its entries, -/
theorem foldl_le {α : Type} (g : α → BitVec 32) (B : ℤ) (l : List α) (hg : ∀ a ∈ l, (g a).toInt ≤ B) (v : BitVec 32) (hv : v.toInt ≤ B) :
    (l.foldl (fun r a => IntOp.maxsi r (g a)) v).toInt ≤ B := by
  induction l generalizing v with
  | nil => exact hv
  | cons a l ih =>
    refine ih (fun b hb => hg b (List.mem_cons_of_mem _ hb)) _ ?_
    rw [toInt_maxsi]
    have := hg a List.mem_cons_self
    omega

/-- at least its start, -/
theorem start_le_foldl {α : Type} (g : α → BitVec 32) (l : List α) (v : BitVec 32) :
    v.toInt ≤ (l.foldl (fun r a => IntOp.maxsi r (g a)) v).toInt := by
  induction l generalizing v with
  | nil => exact le_refl _
  | cons a l ih =>
    refine le_trans ?_ (ih _)
    rw [toInt_maxsi]; omega

/-- and at least each of its entries. -/
theorem le_foldl {α : Type} (g : α → BitVec 32) (l : List α) (v : BitVec 32) (a : α) (ha : a ∈ l) :
    (g a).toInt ≤ (l.foldl (fun r a => IntOp.maxsi r (g a)) v).toInt := by
  induction l generalizing v with
  | nil => cases ha
  | cons b l ih =>
    rcases List.mem_cons.mp ha with rfl | h
    · refine le_trans ?_ (start_le_foldl g l _)
      rw [toInt_maxsi]; omega
    · exact ih _ h

variable {R N M : ℕ} {u : Shape} (x : (⟨2, ![R, N]⟩ : Shape).Idx → BitVec 32) (init : u.Idx → BitVec 32)
  (h : (⟨2, ![R, N]⟩ : Shape).ReduceWindows (![1, N] : Fin 2 → Nat) ![1, 1] ![0, M] ![0, 0] ⟨2, ![R, N]⟩) (hu : 0 < u.numel)
  (j : (⟨2, ![R, N]⟩ : Shape).Idx)

/-- The running maximum is at most a bound of the start and of the row's entries up to there, -/
theorem cummax_le (hM : M + 1 = N) (B : ℤ) (hinit : (init (Shape.Idx.first hu)).toInt ≤ B)
    (hx : ∀ k : (⟨2, ![R, N]⟩ : Shape).Idx, (k 0).val = (j 0).val → (k 1).val ≤ (j 1).val → (x k).toInt ≤ B) :
    (Host.reduceWindow (s := ⟨2, ![R, N]⟩) IntOp.maxsi ![1, N] ![1, 1] ![0, M] ![0, 0] x init h hu j).toInt ≤ B := by
  subst hM
  unfold Host.reduceWindow
  refine foldl_le _ B _ (fun n _ => ?_) _ hinit
  have hw0 : ((Shape.rowMajor ⟨2, ![1, M + 1]⟩).symm n 0).val < 1 := ((Shape.rowMajor ⟨2, ![1, M + 1]⟩).symm n 0).isLt
  have hw1 : ((Shape.rowMajor ⟨2, ![1, M + 1]⟩).symm n 1).val < M + 1 := ((Shape.rowMajor ⟨2, ![1, M + 1]⟩).symm n 1).isLt
  dsimp only
  split
  · refine hx _ ?_ ?_
    · show (j 0).val * 1 + ((Shape.rowMajor ⟨2, ![1, M + 1]⟩).symm n 0).val - 0 = _
      omega
    · show (j 1).val * 1 + ((Shape.rowMajor ⟨2, ![1, M + 1]⟩).symm n 1).val - M ≤ _
      omega
  · exact hinit

/-- and at least the entry itself. -/
theorem le_cummax (hM : M + 1 = N) :
    (x j).toInt ≤ (Host.reduceWindow (s := ⟨2, ![R, N]⟩) IntOp.maxsi ![1, N] ![1, 1] ![0, M] ![0, 0] x init h hu j).toInt := by
  subst hM
  unfold Host.reduceWindow
  have key := le_foldl (fun n : Fin (Shape.numel ⟨2, ![1, M + 1]⟩) =>
      let p : Fin 2 → Nat := fun a => (j a).val * (![1, 1] : Fin 2 → Nat) a + ((Shape.rowMajor ⟨2, ![1, M + 1]⟩).symm n a).val
      if hin : ∀ a, (![0, M] : Fin 2 → Nat) a ≤ p a ∧ p a - (![0, M] : Fin 2 → Nat) a < (⟨2, ![R, M + 1]⟩ : Shape).size a
        then x (fun a => ⟨p a - (![0, M] : Fin 2 → Nat) a, (hin a).2⟩) else init (Shape.Idx.first hu))
    (List.finRange _) (init (Shape.Idx.first hu))
    (Shape.rowMajor ⟨2, ![1, M + 1]⟩ (fun a => match a with | ⟨0, _⟩ => ⟨0, Nat.one_pos⟩ | ⟨1, _⟩ => ⟨M, Nat.lt_succ_self M⟩))
    (List.mem_finRange _)
  refine le_trans (le_of_eq (congrArg BitVec.toInt ?_)) key
  dsimp only
  rw [Equiv.symm_apply_apply, dif_pos]
  · refine congrArg x (funext fun a => Fin.ext ?_)
    match a with
    | ⟨0, _⟩ => show (j 0).val = (j 0).val * 1 + 0 - 0; omega
    | ⟨1, _⟩ => show (j 1).val = (j 1).val * 1 + M - M; omega
  · intro a
    match a with
    | ⟨0, _⟩ => exact ⟨Nat.zero_le _, by show (j 0).val * 1 + 0 - 0 < R; have := (j 0).isLt; change _ < R at this; omega⟩
    | ⟨1, _⟩ => exact ⟨by show M ≤ (j 1).val * 1 + M; omega, by show (j 1).val * 1 + M - M < M + 1; have := (j 1).isLt; change _ < M + 1 at this; omega⟩

end Cert.Pool
-- ==== Proof.Table.lean ====
module

public import proofs.«01_k».proof.Proof.Launch
public import proofs.«01_k».proof.Proof.RunningMax
public import Idealize.ShloMosaic.Lib.Pointwise
public import Idealize.ShloMosaic.Lib.StableHlo.Run
public import Idealize.ShloMosaic.Lib.Claim

/-!
# The table of sequences

The host's table holds, at part `q` and point `i`, the sequence whose part `q` window `q` stages at point `i`. It is always the
number of a sequence, and it is `i` itself where sequence `i` reaches into part `q`.
-/

@[expose] public section

set_option maxRecDepth 16384

noncomputable section

namespace Cert.KernelIdeal.Pool

open Cert.KernelIdeal Cert.KernelIdeal.Gen Cert.Pool
open Idealize.ShloMosaic Idealize.ShloMosaic.TcCoe Idealize.ShloMosaic.Tactic Idealize.ShloMosaic.Pointwise

/-- At part `q` and sequence `i`: `i` where the sequence's length reaches into the part, else -1. -/
def liveIdx (ln : IVec S16 32) : IVec S16x16 32 :=
  select (cmpi .sgt (broadcastInDim S16x16 ![0, 1] bcast_S1x16_S16x16_0_1 (broadcastInDim S1x16 ![1] bcast_S16_S1x16_1 ln))
      (broadcastInDim S16x16 ![0, 1] bcast_S16x1_S16x16_0_1 (broadcastInDim S16x1 ![0] bcast_S16_S16x1_0
        (muli (iotaInDim S16 32 0) (broadcastInDim S16 ![] bcast_S_S16 (constantI S_ 32 256#32))))))
    (broadcastInDim S16x16 ![0, 1] bcast_S1x16_S16x16_0_1 (broadcastInDim S1x16 ![1] bcast_S16_S1x16_1 (iotaInDim S16 32 0)))
    (broadcastInDim S16x16 ![] bcast_S_S16x16 (constantI S_ 32 4294967295#32))

/-- Its running maximum along the sequences. -/
def running (ln : IVec S16 32) : IVec S16x16 32 :=
  Host.reduceWindow IntOp.maxsi ![1, 16] ![1, 1] ![0, 15] ![0, 0] (liveIdx ln)
    (broadcastInDim S_ ![] bcast_S_S_ (constantI S_ 32 2147483648#32)) reduceWindows_S16x16_S16x16_w1s1p0_0_w16s1p15_0 h_S_

/-- The table: no less than 0. -/
def table (ln : IVec S16 32) : IVec S16x16 32 :=
  maxsi (running ln) (broadcastInDim S16x16 ![] bcast_S_S16x16 (constantI S_ 32 0#32))

theorem start_toInt : ∀ q : Fin 16, (IntOp.muli (BitVec.ofNat 32 q.val) 256#32).toInt = 256 * (q.val : ℤ) := by decide
theorem num_toInt : ∀ i : Fin 16, (BitVec.ofNat 32 i.val).toInt = (i.val : ℤ) := by decide

theorem liveIdx_apply (ln : IVec S16 32) (q i : Fin 16) :
    liveIdx ln (ix2 q i) = if 256 * (q.val : ℤ) < (ln (ix1 i)).toInt then BitVec.ofNat 32 i.val else 4294967295#32 := by
  pointwise [liveIdx]
  rw [WordCmp.cmpi_sgt_eq, start_toInt]
  by_cases h : 256 * (q.val : ℤ) < (ln (ix1 i)).toInt
  · rw [if_pos h, decide_eq_true h]; rfl
  · rw [if_neg h, decide_eq_false h]; rfl

theorem liveIdx_le (ln : IVec S16 32) (q i : Fin 16) : (liveIdx ln (ix2 q i)).toInt ≤ i.val := by
  rw [liveIdx_apply]
  split
  · rw [num_toInt]
  · have : (4294967295#32 : BitVec 32).toInt = -1 := by decide
    omega

theorem running_le (ln : IVec S16 32) (q i : Fin 16) : (running ln (ix2 q i)).toInt ≤ i.val := by
  unfold running
  refine cummax_le _ _ _ _ _ rfl _ ?_ fun k _ h1 => ?_
  · show (2147483648#32 : BitVec 32).toInt ≤ _
    have : (2147483648#32 : BitVec 32).toInt = -2147483648 := by decide
    omega
  · rw [eq_ix2 k]
    refine le_trans (liveIdx_le ln (k 0) (k 1)) ?_
    have h2 : (k 1).val ≤ i.val := h1
    exact_mod_cast h2

theorem le_running (ln : IVec S16 32) (q i : Fin 16) : (liveIdx ln (ix2 q i)).toInt ≤ (running ln (ix2 q i)).toInt := by
  unfold running
  exact le_cummax _ _ _ _ _ rfl

attribute [local irreducible] running

theorem table_toInt (ln : IVec S16 32) (q i : Fin 16) : (table ln (ix2 q i)).toInt = max (running ln (ix2 q i)).toInt 0 := by
  have h : table ln (ix2 q i) = IntOp.maxsi (running ln (ix2 q i)) 0#32 := by unfold table; rfl
  rw [h, toInt_maxsi]; rfl

/-- The table holds the number of a sequence no later than its column, -/
theorem table_le (ln : IVec S16 32) (q i : Fin 16) : (table ln (ix2 q i)).toNat ≤ i.val := by
  have h := table_toInt ln q i
  have := running_le ln q i
  have hi := i.isLt
  rw [BitVec.toInt_eq_toNat_cond] at h
  have hlt := (table ln (ix2 q i)).isLt
  split at h <;> omega

/-- and the column itself where the sequence reaches into the part. -/
theorem table_live (ln : IVec S16 32) (q i : Fin 16) (hl : 256 * (q.val : ℤ) < (ln (ix1 i)).toInt) :
    (table ln (ix2 q i)).toNat = i.val := by
  have h := table_toInt ln q i
  have h1 := le_running ln q i
  rw [liveIdx_apply, if_pos hl, num_toInt] at h1
  have := table_le ln q i
  have hi := i.isLt
  rw [BitVec.toInt_eq_toNat_cond] at h
  split at h <;> omega

variable {F : FTy → Type} [FloatOps F]
variable (m : (ℓ : Loc nD τ sig) → Buf (Elt F) ℓ)

/-- The pipeline's second table is the table of the lengths. -/
theorem V_v15 (c : Dev nD) : V m c main_v15 = table (m ((c : Thread nD τ).loc main_arg1)) := by
  unfold V V0 pre hostOps0 hostOps0_1 hostOps0_2 hostOps0_3
  simp only [List.flatten_cons, List.flatten_nil, List.append_nil, List.cons_append, List.nil_append]
  after_results
  simp only [StableHlo.TRef.toBuf, StableHlo.TRef.ofBuf, cast_eq, id]
  unfold table running liveIdx
  with_reducible rfl

theorem bound (x q : ℕ) (hx : x < 16) (hq : q < 16) : ∀ a : Fin 4, (![x, q, 0, 0] a + 1) * S1x1x256x1024.size a ≤ S16x16x256x1024.size a := by
  intro a
  fin_cases a
  · show (x + 1) * 1 ≤ 16; omega
  · show (q + 1) * 1 ≤ 16; omega
  · show (0 + 1) * 256 ≤ 256; omega
  · show (0 + 1) * 1024 ≤ 1024; omega

theorem tbl_lt (j : S16x16.Idx) : BitVec.toNat (tbl m 1 j : BitVec 32) < 16 := by
  have h : tbl m 1 = table (m (((0 : Dev nD) : Thread nD τ).loc main_arg1)) := V_v15 m 0
  rw [h]
  rw [eq_ix2 j]
  exact lt_of_le_of_lt (table_le _ (j 0) (j 1)) (j 1).isLt

/-- Every block that the table names lies inside the array. -/
theorem ok : Ok m := by
  have key : ∀ q : ℕ, q < 16 → ∀ j : S16x16.Idx, ∃ h : ∀ a : Fin 4, (![BitVec.toNat (tbl m 1 j : BitVec 32), q, 0, 0] a + 1) * S1x1x256x1024.size a ≤ S16x16x256x1024.size a,
      EltTy.bits .f32 = 32 ∨ (Rect.block (s := S16x16x256x1024) S1x1x256x1024.size ![BitVec.toNat (tbl m 1 j : BitVec 32), q, 0, 0] h).WholeWords (EltTy.packing .f32) :=
    fun q hq j => ⟨bound _ _ (tbl_lt m j) hq, Or.inl rfl⟩
  refine ⟨?_, ?_, ?_, ?_, ?_, ?_, ?_, ?_, ?_, ?_, ?_, ?_, ?_, ?_, ?_, ?_⟩
  all_goals exact fun i => key _ (by decide) _

end Cert.KernelIdeal.Pool
end
-- ==== Proof.KernelFrame.lean ====
module

public import proofs.«01_k».proof.Proof.Transfer
public import proofs.«01_k».proof.Proof.Table

/-!
# The kernel on the machine's words

The kernel's text is its idealization's, so its runs leave the arguments and the counters as the idealization's do.
-/

@[expose] public section

set_option maxRecDepth 65536
set_option maxHeartbeats 0

noncomputable section

namespace Cert.Pool

open Idealize.ShloMosaic Idealize.ShloMosaic.TcCoe Idealize.SL.Sem

section

open Cert.KernelIdeal

theorem frame_of_same {F : FTy → Type} [FloatOps F] (D) (hD : D = @Cert.KernelIdeal.defs F _ Cert.KernelIdeal.Gen.facts)
    (M) (hM : M = @Cert.KernelIdeal.main F _ Cert.KernelIdeal.Gen.facts)
    (m : (ℓ : Loc nD τ sig) → Buf (Elt F) ℓ) (g : Dev nD → PrngReg) :
    θ_run D (onTc (τ := τ) M) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  subst hD hM
  exact Cert.KernelIdeal.Pool.frame m g (Cert.KernelIdeal.Pool.ok m)

end

open Cert.Kernel

theorem kernel_frame {F : FTy → Type} [FloatOps F] (m : (ℓ : Loc nD τ sig) → Buf (Elt F) ℓ) (g : Dev nD → PrngReg) :
    θ_run (@Cert.Kernel.defs F _ Cert.Kernel.Gen.facts) (onTc (τ := τ) (@Cert.Kernel.main F _ Cert.Kernel.Gen.facts)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  frame_of_same (@Cert.Kernel.defs F _ Cert.Kernel.Gen.facts) defs_same (@Cert.Kernel.main F _ Cert.Kernel.Gen.facts) main_same m g

end Cert.Pool
end
-- ==== Proof.Result.lean ====
module

public import proofs.«01_k».proof.Proof.Table
public import Idealize.ShloMosaic.Lib.Pipeline.Value

/-!
# What the result array holds

Point `i` writes row `i` of the result: the point's result on the sixteen parts that the table names. The rows make up the array.
-/

@[expose] public section

set_option maxRecDepth 16384

noncomputable section

namespace Cert.KernelIdeal.Pool

open Cert.KernelIdeal Cert.KernelIdeal.Gen Cert.Pool
open Idealize.ShloMosaic Idealize.ShloMosaic.TcCoe Idealize.ShloMosaic.Tactic Idealize.ShloMosaic.Pointwise
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem coord_val : ∀ t : Fin grid0.N, (grid0.coords t 0).val = t.val := by decide

/-- The place of a block's element in the array. -/
theorem part_idx (x : ℕ) (hx : x < 16) (q : Fin 16) (off : Fin 4 → ℕ) (hoff : off = ![x, q.val, 0, 0])
    (inb : ∀ a, (off a + 1) * S1x1x256x1024.size a ≤ S16x16x256x1024.size a) (r : Fin 256) (d : Fin 1024) :
    (Rect.block (s := S16x16x256x1024) S1x1x256x1024.size off inb).emb (ix4 (0 : Fin 1) (0 : Fin 1) r d) = ix4 (⟨x, hx⟩ : Fin 16) q r d := by
  subst hoff
  funext a
  refine Fin.ext ?_
  match a with
  | ⟨0, _⟩ => show x * 1 + 0 = x; omega
  | ⟨1, _⟩ => show q.val * 1 + 0 = q.val; omega
  | ⟨2, _⟩ => show 0 * 256 + 1 * r.val = r.val; omega
  | ⟨3, _⟩ => show 0 * 1024 + 1 * d.val = d.val; omega

/-- The place of the table's word for part `q` at point `i`. -/
theorem word_idx (q : Fin 16) (i : grid0.Coords) (off : Fin 2 → ℕ) (hoff : off = ![q.val, (Scalar.indexCast (BitVec.ofNat 32 (i 0).val)).toNat])
    (inb : ∀ a, off a + S1x1.size a ≤ S16x16.size a) (h1) :
    (Rect.unit (s := S16x16) off S1x1.size inb).emb (Shape.Idx.first h1) = ix2 q (i 0) := by
  subst hoff
  have hi : (i 0).val < 16 := (i 0).isLt
  have hw : (Scalar.indexCast (BitVec.ofNat 32 (i 0).val)).toNat = (i 0).val := by
    show (BitVec.ofNat 32 (i 0).val).toNat = _
    rw [BitVec.toNat_ofNat]; omega
  funext a
  refine Fin.ext ?_
  match a with
  | ⟨0, _⟩ => show q.val + 1 * 0 = q.val; omega
  | ⟨1, _⟩ => show (Scalar.indexCast (BitVec.ofNat 32 (i 0).val)).toNat + 1 * 0 = (i 0).val; omega

/-- The sixteen windows' blocks of an array at a point: part `q` of the sequence that the table names. -/
theorem parts_apply (a : (pcfg0 (F := F)).Adm) (ha : ∀ j : S16x16.Idx, BitVec.toNat (a.1 1 j : BitVec 32) < 16)
    (arr : S16x16x256x1024.Idx → Elt F .f32) (t : Fin (cfg0 a).N) (q : Fin 16) (r : Fin 256) (d : Fin 1024) :
    parts a arr t q.val (ix4 (0 : Fin 1) (0 : Fin 1) r d)
      = arr (ix4 (⟨BitVec.toNat (a.1 1 (ix2 q (grid0.coords t 0)) : BitVec 32), ha _⟩ : Fin 16) q r d) := by
  have key : ∀ (q : Fin 16) (off2 : Fin 2 → ℕ) (_ : off2 = ![q.val, (Scalar.indexCast (BitVec.ofNat 32 (grid0.coords t 0).val)).toNat])
      (inb2 : ∀ a, off2 a + S1x1.size a ≤ S16x16.size a) (h1) (off : Fin 4 → ℕ)
      (_ : off = ![BitVec.toNat (a.1 1 ((Rect.unit (s := S16x16) off2 S1x1.size inb2).emb (Shape.Idx.first h1)) : BitVec 32), q.val, 0, 0]) (inb),
      arr ((Rect.block (s := S16x16x256x1024) S1x1x256x1024.size off inb).emb (ix4 (0 : Fin 1) (0 : Fin 1) r d))
        = arr (ix4 (⟨BitVec.toNat (a.1 1 (ix2 q (grid0.coords t 0)) : BitVec 32), ha _⟩ : Fin 16) q r d) := by
    intro q off2 h2 inb2 h1 off hoff inb
    rw [word_idx q (grid0.coords t) off2 h2 inb2 h1] at hoff
    rw [part_idx _ (ha _) q off hoff inb r d]
    exact rfl
  fin_cases q
  · exact key 0 _ rfl (k0_off1_inb _) (numel1_S1x1.symm ▸ Nat.one_pos) (cc0_transform_0 k0_off1_inb numel1_S1x1 a.1 _) rfl (hinb0 a.1 a.2 0 _)
  · exact key 1 _ rfl (k0_off2_inb _) (numel1_S1x1.symm ▸ Nat.one_pos) (cc0_transform_1 k0_off2_inb numel1_S1x1 a.1 _) rfl (hinb0 a.1 a.2 1 _)
  · exact key 2 _ rfl (k0_off3_inb _) (numel1_S1x1.symm ▸ Nat.one_pos) (cc0_transform_2 k0_off3_inb numel1_S1x1 a.1 _) rfl (hinb0 a.1 a.2 2 _)
  · exact key 3 _ rfl (k0_off4_inb _) (numel1_S1x1.symm ▸ Nat.one_pos) (cc0_transform_3 k0_off4_inb numel1_S1x1 a.1 _) rfl (hinb0 a.1 a.2 3 _)
  · exact key 4 _ rfl (k0_off5_inb _) (numel1_S1x1.symm ▸ Nat.one_pos) (cc0_transform_4 k0_off5_inb numel1_S1x1 a.1 _) rfl (hinb0 a.1 a.2 4 _)
  · exact key 5 _ rfl (k0_off6_inb _) (numel1_S1x1.symm ▸ Nat.one_pos) (cc0_transform_5 k0_off6_inb numel1_S1x1 a.1 _) rfl (hinb0 a.1 a.2 5 _)
  · exact key 6 _ rfl (k0_off7_inb _) (numel1_S1x1.symm ▸ Nat.one_pos) (cc0_transform_6 k0_off7_inb numel1_S1x1 a.1 _) rfl (hinb0 a.1 a.2 6 _)
  · exact key 7 _ rfl (k0_off8_inb _) (numel1_S1x1.symm ▸ Nat.one_pos) (cc0_transform_7 k0_off8_inb numel1_S1x1 a.1 _) rfl (hinb0 a.1 a.2 7 _)
  · exact key 8 _ rfl (k0_off9_inb _) (numel1_S1x1.symm ▸ Nat.one_pos) (cc0_transform_8 k0_off9_inb numel1_S1x1 a.1 _) rfl (hinb0 a.1 a.2 8 _)
  · exact key 9 _ rfl (k0_off10_inb _) (numel1_S1x1.symm ▸ Nat.one_pos) (cc0_transform_9 k0_off10_inb numel1_S1x1 a.1 _) rfl (hinb0 a.1 a.2 9 _)
  · exact key 10 _ rfl (k0_off11_inb _) (numel1_S1x1.symm ▸ Nat.one_pos) (cc0_transform_10 k0_off11_inb numel1_S1x1 a.1 _) rfl (hinb0 a.1 a.2 10 _)
  · exact key 11 _ rfl (k0_off12_inb _) (numel1_S1x1.symm ▸ Nat.one_pos) (cc0_transform_11 k0_off12_inb numel1_S1x1 a.1 _) rfl (hinb0 a.1 a.2 11 _)
  · exact key 12 _ rfl (k0_off13_inb _) (numel1_S1x1.symm ▸ Nat.one_pos) (cc0_transform_12 k0_off13_inb numel1_S1x1 a.1 _) rfl (hinb0 a.1 a.2 12 _)
  · exact key 13 _ rfl (k0_off14_inb _) (numel1_S1x1.symm ▸ Nat.one_pos) (cc0_transform_13 k0_off14_inb numel1_S1x1 a.1 _) rfl (hinb0 a.1 a.2 13 _)
  · exact key 14 _ rfl (k0_off15_inb _) (numel1_S1x1.symm ▸ Nat.one_pos) (cc0_transform_14 k0_off15_inb numel1_S1x1 a.1 _) rfl (hinb0 a.1 a.2 14 _)
  · exact key 15 _ rfl (k0_off16_inb _) (numel1_S1x1.symm ▸ Nat.one_pos) (cc0_transform_15 k0_off16_inb numel1_S1x1 a.1 _) rfl (hinb0 a.1 a.2 15 _)

/-! ## The result array -/

/-- The point that writes row `i`. -/
def pointOf (hO : Ok m) (i : Fin 16) : Fin (cfgM m hO).N := ⟨i.val, lt_of_lt_of_eq i.isLt N_0.symm⟩

/-- What the result array is shown to hold: row `i` is point `i`'s result. -/
def final (hO : Ok m) (c : Dev nD) : S16x1x1024.Idx → Elt F .f32 := fun j =>
  result (len m hO c (pointOf m hO (j 0))) (blocks m hO c (pointOf m hO (j 0))) (ix3 (0 : Fin 1) (0 : Fin 1) (j 2))

theorem flush_out (hO : Ok m) (t : Fin (cfgM m hO).N) : ((cfgM m hO).win 16).flush t = true :=
  (Pipeline.Window.flushOf_reads cc0_transform_16 reads0_16 hreads0_16 0 (by decide) (by decide)
    (Pipeline.Window.sep_of_coord cc0_transform_16 0 0 (fun _ => rfl) (by decide)) (P := 1) (m := 0) (by decide) rfl t).mpr (Nat.mod_one _)

theorem row_val : ∀ (t : Fin grid0.N), cc0_transform_16 (grid0.coords t) = ![t.val, 0, 0] := by decide

/-- The place of an element of point `t`'s block in the array. -/
theorem row_idx (t : Fin grid0.N) (off : Fin 3 → ℕ) (hoff : off = ![t.val, 0, 0])
    (inb : ∀ a, (off a + 1) * S1x1x1024.size a ≤ S16x1x1024.size a) (d : Fin 1024) :
    (Rect.block (s := S16x1x1024) S1x1x1024.size off inb).emb (ix3 (0 : Fin 1) (0 : Fin 1) d)
      = ix3 (⟨t.val, lt_of_lt_of_eq t.isLt N_0⟩ : Fin 16) (0 : Fin 1) d := by
  subst hoff
  funext a
  refine Fin.ext ?_
  match a with
  | ⟨0, _⟩ => show t.val * 1 + 0 = t.val; omega
  | ⟨1, _⟩ => rfl
  | ⟨2, _⟩ => show 0 * 1024 + 1 * d.val = d.val; omega

theorem block_eta (j : S1x1x1024.Idx) : j = ix3 (0 : Fin 1) (0 : Fin 1) (j 2) := by
  rw [eq_ix3 j]
  congr 1 <;> exact Subsingleton.elim (α := Fin 1) _ _

/-- Point `t` writes row `t` back. -/
theorem flushed_eq (hO : Ok m) (c : Dev nD) (t : Fin (cfgM m hO).N) :
    (dats m hO 0 c).flushed 16 t = (((cfgM m hO).win 16).blk t).view.read (Elt F) (final m hO c) := by
  show ((cfgM m hO).win 16).cut (grid0.coords t) ((dats m hO 0 c).after 16 t) = _
  rw [after_out]
  have key : ∀ (j : S1x1x1024.Idx) (off : Fin 3 → ℕ) (_ : off = ![t.val, 0, 0]) (inb),
      result (len m hO c t) (blocks m hO c t) j
        = final m hO c ((Rect.block (s := S16x1x1024) S1x1x1024.size off inb).emb j) := by
    intro j off hoff inb
    have e := row_idx t off hoff inb (j 2)
    exact (congrArg (result (len m hO c t) (blocks m hO c t)) (block_eta j)).trans
      (congrArg (final m hO c) ((congrArg _ (block_eta j)).trans e)).symm
  exact funext fun j => key j _ (row_val t) (hinb0 (tbl m) hO 16 (grid0.coords t))

/-- An element is in point `t`'s block where its row is `t`. -/
theorem mem_blk (hO : Ok m) (t : Fin (cfgM m hO).N) (i : S16x1x1024.Idx) (h : (i 0).val = t.val) :
    i ∈ (((cfgM m hO).win 16).blk t).view.set := by
  have key : ∀ (off : Fin 3 → ℕ) (_ : off = ![t.val, 0, 0]) (inb : ∀ a, (off a + 1) * S1x1x1024.size a ≤ S16x1x1024.size a),
      i ∈ ((View.whole main_v16).slice (Rect.block (s := S16x1x1024) S1x1x1024.size off inb)).set := by
    intro off hoff inb
    subst hoff
    rw [View.set_slice_whole, Rect.mem_set_unit]
    intro a
    match a with
    | ⟨0, _⟩ => show t.val * 1 ≤ (i 0).val ∧ (i 0).val < t.val * 1 + 1
                omega
    | ⟨1, _⟩ => show 0 * 1 ≤ (i 1).val ∧ (i 1).val < 0 * 1 + 1
                have h1 : (i 1).val < 1 := (i 1).isLt
                omega
    | ⟨2, _⟩ => show 0 * 1024 ≤ (i 2).val ∧ (i 2).val < 0 * 1024 + 1024
                have h1 : (i 2).val < 1024 := (i 2).isLt
                omega
  exact key _ (row_val t) (hinb0 (tbl m) hO 16 (grid0.coords t))

theorem final_out (hO : Ok m) (c : Dev nD) : (dats m hO 0 c).arrAt 16 (cfgM m hO).N = final m hO c :=
  (dats m hO 0 c).arrAt_eq_of_cover 16 (final m hO c) (fun t _ => flushed_eq m hO c t) fun (i : S16x1x1024.Idx) =>
    ⟨pointOf m hO (i 0), flush_out m hO _, mem_blk m hO _ i rfl⟩

/-- The host's last operation reshapes the result array. -/
theorem tail_reads (W : Valuation τ sig (Elt F)) :
    StableHlo.after (hostOps1 (F := F)) W (Proc.devRef .tc main_v17)
      = shapeCast S16x1024 (W (Proc.devRef .tc main_v16)) shapeCasts_S16x1x1024_S16x1024 := by
  unfold hostOps1
  after_results
  rfl

theorem tail_value (hO : Ok m) (c : Dev nD) :
    Pipeline.afterTail pcfgs (fun _ => adm m hO) (dats m hO) 0 (V0 m) [hostOps1] c main_v17
      = shapeCast S16x1024 (final m hO c) shapeCasts_S16x1x1024_S16x1024 := by
  unfold Pipeline.afterTail
  rw [List.flatten_cons, List.flatten_nil, List.append_nil, tail_reads]
  have e : Pipeline.withArrays (Pipeline.pin pcfgs (fun _ => adm m hO) 0).spec c (V0 m c)
      (fun w => (dats m hO 0 c).arrAt w (Pipeline.pin pcfgs (fun _ => adm m hO) 0).N) (Proc.devRef .tc main_v16) = final m hO c :=
    (Pipeline.withArrays_arr_shared _ c _ _ ((dats m hO 0 c).arrAt_sharedIn sharedIn0 (V0 m c) (A_eq m hO c) _) 16).trans
      (final_out m hO c)
  exact congrArg (fun x : S16x1x1024.Idx → Elt F .f32 => shapeCast S16x1024 x shapeCasts_S16x1x1024_S16x1024) e

/-- Every run ends with the result at the result array's rows, and the arguments as launched. -/
theorem run_both (hO : Ok m) : θ_run defs (onTc (τ := τ) (main (F := F))) ⟨m, fun _ => 0, ρ⟩ (fun r =>
      (∀ c : Dev nD, r.2.mem ((c.tc : Thread nD τ).loc main_v17) = shapeCast S16x1024 (final m hO c) shapeCasts_S16x1x1024_S16x1024)
      ∧ ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h => ⟨fun c => ((h.1 c).2 main_v17 (by decide : main_v17 ∈ Pipeline.restRefs sig spec0)).trans (tail_value m hO c),
    fun c => ⟨((h.1 c).2 main_arg0 (by decide : main_arg0 ∈ Pipeline.restRefs sig spec0)).trans (tail_keeps m hO c _ (by decide) (by decide) (V_arg0 m c)),
      ((h.1 c).2 main_arg1 (by decide : main_arg1 ∈ Pipeline.restRefs sig spec0)).trans (tail_keeps m hO c _ (by decide) (by decide) (V_arg1 m c))⟩⟩)
    (run_main m ρ hO)

end Cert.KernelIdeal.Pool
end
-- ==== Proof.Sum.lean ====
module

public import proofs.«01_k».proof.Proof.Body
public import Idealize.ShloMosaic.Lib.Pointwise
public import Idealize.ShloMosaic.Lib.WordCmp

/-!
# What one point computes

Over the extended reals, where the length is not negative: the sum of the rows before the length, part by part, divided by the
length.
-/

@[expose] public section

set_option maxRecDepth 16384

noncomputable section

namespace Cert.KernelIdeal.Pool

open Cert.KernelIdeal Cert.KernelIdeal.Gen Cert.Pool
open Idealize.ShloMosaic Idealize.ShloMosaic.TcCoe Idealize.ShloMosaic.Tactic Idealize.ShloMosaic.Pointwise

/-- The number of rows left at part `q`, where the length is not negative. -/
theorem word_toInt (ln : BitVec 32) (h : 0 ≤ ln.toInt) (q : ℕ) (hq : q < 16) : (word ln q).toInt = ln.toInt - 256 * q := by
  have e : word ln q = ln - BitVec.ofNat 32 (256 * q) := rfl
  have hq' : (BitVec.ofNat 32 (256 * q)).toInt = 256 * (q : ℤ) := by
    rw [WordCmp.toInt_ofNat_of_lt (by omega)]; push_cast; rfl
  have hu : ln.toInt < 2 ^ 31 := BitVec.toInt_lt
  rw [e, BitVec.toInt_sub, hq', Int.bmod_eq_of_le] <;> omega

/-- A part is summed where rows are left. -/
theorem live_iff (r : BitVec 32) : live r = 1#1 ↔ 0 < r.toInt := by
  have e : live r = IntOp.cmpi .ne (Scalar.extui (IntOp.cmpi .sgt r 0#32) : BitVec 32) 0#32 := rfl
  rw [e, WordCmp.cmpi_sgt_eq]
  have h0 : (0#32 : BitVec 32).toInt = 0 := by decide
  rw [h0]
  by_cases h : 0 < r.toInt
  · rw [decide_eq_true h]; exact ⟨fun _ => h, fun _ => by decide⟩
  · rw [decide_eq_false h]; exact ⟨fun h' => absurd h' (by decide), fun h' => absurd h' h⟩

theorem row_toInt (r : Fin 256) : (BitVec.ofNat 32 r.val).toInt = (r.val : ℤ) :=
  WordCmp.toInt_ofNat_of_lt (by have := r.isLt; omega)

/-- One part's sum, added: the rows before `w` of the 256. -/
theorem pay_apply (w : BitVec 32) (x : Vec Ideal S1x1x256x1024 .f32) (y : Vec Ideal S1x1x1024 .f32) (d : Fin 1024) :
    k0_pay1 (F := Ideal) w x y (ix3 (0 : Fin 1) (0 : Fin 1) d)
      = y (ix3 (0 : Fin 1) (0 : Fin 1) d) + ∑ r : Fin 256, if (r.val : ℤ) < w.toInt then x (ix4 (0 : Fin 1) (0 : Fin 1) r d) else 0 := by
  pointwise [k0_pay1]
  refine congrArg _ (Finset.sum_congr rfl fun r _ => ?_)
  rw [WordCmp.cmpi_slt_eq, row_toInt]
  by_cases h : (r.val : ℤ) < w.toInt
  · rw [if_pos h, decide_eq_true h]; rfl
  · rw [if_neg h, decide_eq_false h]; rfl

theorem acc_apply (ln : BitVec 32) (h : 0 ≤ ln.toInt) (q : ℕ) (hq : q < 16) (x : Vec Ideal S1x1x256x1024 .f32)
    (y : Vec Ideal S1x1x1024 .f32) (d : Fin 1024) :
    acc (F := Ideal) ln q x y (ix3 (0 : Fin 1) (0 : Fin 1) d)
      = y (ix3 (0 : Fin 1) (0 : Fin 1) d) + ∑ r : Fin 256, if 256 * (q : ℤ) + r.val < ln.toInt then x (ix4 (0 : Fin 1) (0 : Fin 1) r d) else 0 := by
  have hw := word_toInt ln h q hq
  unfold acc
  by_cases hl : live (word ln q) = 1#1
  · rw [if_pos hl, pay_apply, hw]
    refine congrArg _ (Finset.sum_congr rfl fun r _ => if_congr ?_ rfl rfl)
    omega
  · rw [if_neg hl, Finset.sum_eq_zero fun r _ => if_neg ?_, add_zero]
    rw [live_iff, hw] at hl
    omega

/-- The sum over the first `n` parts. -/
theorem total_apply (ln : BitVec 32) (h : 0 ≤ ln.toInt) (x : ℕ → Vec Ideal S1x1x256x1024 .f32) (d : Fin 1024) :
    ∀ n ≤ 16, total (F := Ideal) ln x n (ix3 (0 : Fin 1) (0 : Fin 1) d)
      = ∑ q ∈ Finset.range n, ∑ r : Fin 256, if 256 * (q : ℤ) + r.val < ln.toInt then x q (ix4 (0 : Fin 1) (0 : Fin 1) r d) else 0
  | 0, _ => by
    rw [Finset.sum_range_zero]
    show k0_pay5 (F := Ideal) _ = 0
    pointwise [k0_pay5]
  | n + 1, hn => by
    rw [Finset.sum_range_succ, ← total_apply ln h x d n (by omega)]
    exact acc_apply ln h n (by omega) _ _ d

/-- A point's result: the sum of all sixteen parts, divided by the length. -/
theorem result_apply (ln : BitVec 32) (h : 0 ≤ ln.toInt) (x : ℕ → Vec Ideal S1x1x256x1024 .f32) (d : Fin 1024) :
    result (F := Ideal) ln x (ix3 (0 : Fin 1) (0 : Fin 1) d)
      = Ideal.div (∑ q : Fin 16, ∑ r : Fin 256, if 256 * (q.val : ℤ) + r.val < ln.toInt then x q.val (ix4 (0 : Fin 1) (0 : Fin 1) r d) else 0)
          (Scalar.sitofp (F := Ideal) .f32 ln) := by
  unfold result
  pointwise [k0_pay4]
  rw [total_apply ln h x d 16 le_rfl, Finset.sum_range]

end Cert.KernelIdeal.Pool
end
-- ==== Proof.Mean.lean ====
module

public import Idealize.ShloMosaic.Lib.Pointwise

/-!
# The mean

The sum of the rows before a sequence's length, divided by the length, over the extended reals.
-/

@[expose] public section

noncomputable section

namespace Cert.Pool

open Idealize.ShloMosaic Idealize.ShloMosaic.Pointwise

/-- The mean at sequence `i` and column `d`. -/
def mean (x : Vec Ideal ⟨4, ![1, 16, 4096, 1024]⟩ .f32) (ln : IVec ⟨1, ![16]⟩ 32) (i : Fin 16) (d : Fin 1024) : Ideal .f32 :=
  Ideal.div (∑ l : Fin 4096, if (l.val : ℤ) < (ln (ix1 i)).toInt then x (ix4 (0 : Fin 1) i l d) else 0)
    (Scalar.sitofp (F := Ideal) .f32 (ln (ix1 i)))

/-- The mean at every sequence and column. -/
def means (x : Vec Ideal ⟨4, ![1, 16, 4096, 1024]⟩ .f32) (ln : IVec ⟨1, ![16]⟩ 32) : Vec Ideal ⟨2, ![16, 1024]⟩ .f32 :=
  fun j => mean x ln (j 0) (j 1)

end Cert.Pool
end
-- ==== Proof.Value.lean ====
module

public import proofs.«01_k».proof.Proof.Result
public import proofs.«01_k».proof.Proof.Sum
public import proofs.«01_k».proof.Proof.Mean

/-!
# The kernel computes the mean

Where no length is negative, the result array's rows are the means of the argument's sequences.
-/

@[expose] public section

set_option maxRecDepth 16384

noncomputable section

namespace Cert.KernelIdeal.Pool

open Cert.KernelIdeal Cert.KernelIdeal.Gen Cert.Pool
open Idealize.ShloMosaic Idealize.ShloMosaic.TcCoe Idealize.ShloMosaic.Tactic Idealize.ShloMosaic.Pointwise
open Idealize.SL.Sem

section Reads

variable {F : FTy → Type} [FloatOps F]
variable (m : (ℓ : Loc nD τ sig) → Buf (Elt F) ℓ)

/-- The place of the length's word at point `i`. -/
theorem len_idx (i : grid0.Coords) (inb : ∀ a, k0_off17 i a + S1.size a ≤ S16.size a) (h1) :
    (Rect.unit (s := S16) (k0_off17 i) S1.size inb).emb (Shape.Idx.first h1) = ix1 (i 0) := by
  have hi : (i 0).val < 16 := (i 0).isLt
  have hw : (Scalar.indexCast (BitVec.ofNat 32 (i 0).val)).toNat = (i 0).val := by
    show (BitVec.ofNat 32 (i 0).val).toNat = _
    rw [BitVec.toNat_ofNat]; omega
  funext a
  refine Fin.ext ?_
  match a with
  | ⟨0, _⟩ => show (Scalar.indexCast (BitVec.ofNat 32 (i 0).val)).toNat + 1 * 0 = (i 0).val; omega

/-- The length the body reads is the point's sequence's. -/
theorem len_eq (hO : Ok m) (c : Dev nD) (t : Fin (cfgM m hO).N) :
    len m hO c t = (m ((c : Thread nD τ).loc main_arg1) : IVec S16 32) (ix1 (grid0.coords t 0)) := by
  have key : ∀ (f : IVec S16 32) (i : grid0.Coords), lenAt (F := F) c i f = f (ix1 (i 0)) :=
    fun f i => congrArg f (len_idx i (k0_off17_inb i) _)
  have e : tbl m 0 = m ((c : Thread nD τ).loc main_arg1) := (V_pre m c 0).symm.trans (V_arg1 m c)
  exact (congrArg (lenAt (F := F) c (grid0.coords t)) e).trans (key _ _)

/-- The argument's rows, cut into sixteen parts. -/
theorem cut_apply {α : Type} (x : S1x16x4096x1024.Idx → α) (i q : Fin 16) (r : Fin 256) (d : Fin 1024) :
    shapeCast S16x16x256x1024 (shapeCast S16x4096x1024 x shapeCasts_S1x16x4096x1024_S16x4096x1024) shapeCasts_S16x4096x1024_S16x16x256x1024 (ix4 i q r d)
      = x (ix4 (0 : Fin 1) i (⟨q.val * 256 + r.val, by omega⟩ : Fin 4096) d) := by
  pointwise

/-- Where the sequence reaches into the part, the table names the sequence. -/
theorem live_num (T : IVec S16x16 32) (ln : IVec S16 32) (e : T = table ln) (q i : Fin 16)
    (hq : 256 * (q.val : ℤ) < (ln (ix1 i)).toInt) (i' : Fin 16) (hi : i' = i) : (T (ix2 q i')).toNat = i.val := by
  rw [e, hi]
  exact table_live ln q i hq

/-- The part staged at a point, where the table's word is known. -/
theorem parts_live (a : (pcfg0 (F := F)).Adm) (T : pre0.Contents (Elt F)) (e : a.1 = T) (hT : ∀ j : S16x16.Idx, BitVec.toNat (T 1 j : BitVec 32) < 16)
    (arr : S16x16x256x1024.Idx → Elt F .f32) (t : Fin (cfg0 a).N) (q : Fin 16) (r : Fin 256) (d : Fin 1024) (i : Fin 16)
    (hn : BitVec.toNat (T 1 (ix2 q (grid0.coords t 0)) : BitVec 32) = i.val) :
    parts a arr t q.val (ix4 (0 : Fin 1) (0 : Fin 1) r d) = arr (ix4 i q r d) := by
  subst e
  exact (parts_apply a hT arr t q r d).trans (congrArg (fun s : Fin 16 => arr (ix4 s q r d)) (Fin.ext hn))

/-- The windows' array is the argument, its rows cut into sixteen parts. -/
theorem V_v1 (c : Dev nD) (i q : Fin 16) (r : Fin 256) (d : Fin 1024) :
    (V m c main_v1 : Vec F S16x16x256x1024 .f32) (ix4 i q r d)
      = (m ((c : Thread nD τ).loc main_arg0) : Vec F S1x16x4096x1024 .f32) (ix4 (0 : Fin 1) i (⟨q.val * 256 + r.val, by omega⟩ : Fin 4096) d) := by
  have e : (V m c main_v1 : Vec F S16x16x256x1024 .f32)
      = shapeCast S16x16x256x1024 (shapeCast S16x4096x1024 (m ((c : Thread nD τ).loc main_arg0) : Vec F S1x16x4096x1024 .f32)
          shapeCasts_S1x16x4096x1024_S16x4096x1024) shapeCasts_S16x4096x1024_S16x16x256x1024 := by
    unfold V V0 pre hostOps0 hostOps0_1 hostOps0_2 hostOps0_3
    simp only [List.flatten_cons, List.flatten_nil, List.append_nil, List.cons_append, List.nil_append]
    after_results
    rfl
  rw [e]
  exact cut_apply _ i q r d

end Reads

variable (m : (ℓ : Loc nD τ sig) → Buf (Elt Ideal) ℓ)

/-- What the body stages of part `q`, where sequence `i` reaches into the part: the sequence's rows. -/
theorem blocks_apply (hO : Ok m) (c : Dev nD) (i q : Fin 16) (r : Fin 256) (d : Fin 1024)
    (hq : 256 * (q.val : ℤ) < ((m ((c : Thread nD τ).loc main_arg1) : IVec S16 32) (ix1 i)).toInt) :
    blocks m hO c (pointOf m hO i) q.val (ix4 (0 : Fin 1) (0 : Fin 1) r d)
      = (m ((c : Thread nD τ).loc main_arg0) : Vec Ideal S1x16x4096x1024 .f32) (ix4 (0 : Fin 1) i (⟨q.val * 256 + r.val, by omega⟩ : Fin 4096) d) := by
  have hc : grid0.coords (pointOf m hO i) 0 = i := Fin.ext (coord_val _)
  have ht : tbl m 1 = table (m ((c : Thread nD τ).loc main_arg1)) := (V_pre m c 1).symm.trans (V_v15 m c)
  refine Eq.trans ?_ (V_v1 m c i q r d)
  have h1 := live_num (tbl m 1) _ ht q i hq _ hc
  have h2 := parts_live (adm m hO) (tbl m) rfl (tbl_lt m)
  have h3 := h2 (V m c main_v1) (pointOf m hO i) q r d i
  exact h3 h1

/-- The mean, part by part, off parts that hold the sequence's rows wherever the sequence reaches. -/
theorem mean_parts (x : Vec Ideal S1x16x4096x1024 .f32) (ln : IVec S16 32) (i : Fin 16) (h : 0 ≤ (ln (ix1 i)).toInt)
    (y : ℕ → Vec Ideal S1x1x256x1024 .f32) (d : Fin 1024)
    (hy : ∀ (q : Fin 16) (r : Fin 256), 256 * (q.val : ℤ) < (ln (ix1 i)).toInt →
      y q.val (ix4 (0 : Fin 1) (0 : Fin 1) r d) = x (ix4 (0 : Fin 1) i (⟨q.val * 256 + r.val, by omega⟩ : Fin 4096) d)) :
    result (F := Ideal) (ln (ix1 i)) y (ix3 (0 : Fin 1) (0 : Fin 1) d) = mean x ln i d := by
  rw [result_apply _ h]
  unfold mean
  rw [Fin.sum_univ_tiles 16 256 rfl]
  refine congrArg (fun s => Ideal.div s _) (Finset.sum_congr rfl fun q _ => Finset.sum_congr rfl fun r _ => ?_)
  have hp : 256 * (q.val : ℤ) + r.val = ((q.val * 256 + r.val : ℕ) : ℤ) := by push_cast; ring
  rw [hp]
  refine if_ctx_congr Iff.rfl (fun hlt => hy q r ?_) fun _ => rfl
  exact lt_of_le_of_lt (by push_cast; omega : 256 * (q.val : ℤ) ≤ ((q.val * 256 + r.val : ℕ) : ℤ)) hlt

/-- The result at row `i` is the mean of sequence `i`. -/
theorem final_apply (hO : Ok m) (c : Dev nD)
    (h : ∀ i : Fin 16, 0 ≤ ((m ((c : Thread nD τ).loc main_arg1) : IVec S16 32) (ix1 i)).toInt) (i : Fin 16) (d : Fin 1024) :
    final m hO c (ix3 i (0 : Fin 1) d)
      = mean (m ((c : Thread nD τ).loc main_arg0)) (m ((c : Thread nD τ).loc main_arg1)) i d := by
  have hc : grid0.coords (pointOf m hO i) 0 = i := Fin.ext (coord_val _)
  have hl : len m hO c (pointOf m hO i) = (m ((c : Thread nD τ).loc main_arg1) : IVec S16 32) (ix1 i) :=
    (len_eq m hO c _).trans (congrArg (fun j : Fin 16 => (m ((c : Thread nD τ).loc main_arg1) : IVec S16 32) (ix1 j)) hc)
  have e : final m hO c (ix3 i (0 : Fin 1) d)
      = result (F := Ideal) (len m hO c (pointOf m hO i)) (blocks m hO c (pointOf m hO i)) (ix3 (0 : Fin 1) (0 : Fin 1) d) := rfl
  rw [e, hl]
  exact mean_parts _ _ i (h i) _ d fun q r hq => blocks_apply m hO c i q r d hq

/-- Reshaped, the result array is the array of the means. -/
theorem final_eq (hO : Ok m) (c : Dev nD)
    (h : ∀ i : Fin 16, 0 ≤ ((m ((c : Thread nD τ).loc main_arg1) : IVec S16 32) (ix1 i)).toInt) :
    shapeCast S16x1024 (final m hO c) shapeCasts_S16x1x1024_S16x1024
      = means (m ((c : Thread nD τ).loc main_arg0)) (m ((c : Thread nD τ).loc main_arg1)) := by
  have key : ∀ (x : Vec Ideal S16x1x1024 .f32) (i : Fin 16) (d : Fin 1024),
      shapeCast S16x1024 x shapeCasts_S16x1x1024_S16x1024 (ix2 i d) = x (ix3 i (0 : Fin 1) d) := by
    intro x i d
    pointwise
  funext j
  rw [eq_ix2 j]
  exact (key _ _ _).trans (final_apply m hO c h _ _)

end Cert.KernelIdeal.Pool
end
-- ==== Proof.Reference.lean ====
module

public import proofs.«01_k».proof.Pre_lengths
public import proofs.«01_k».proof.Proof.Gen.ReferenceIdeal.Run
public import proofs.«01_k».proof.Proof.Mean
public import Idealize.ShloMosaic.Lib.ReduceAll
public import Idealize.ShloMosaic.Lib.WordCmp
public import Idealize.ShloMosaic.Lib.Claim

/-!
# The reference computes the mean

And the precondition says that no length is negative.
-/

@[expose] public section

noncomputable section

namespace Cert.Pool

open Idealize.ShloMosaic Idealize.ShloMosaic.Pointwise

theorem pre_facts : Cert.Pre_lengths.Facts := ⟨by decide, by decide, by decide⟩

/-- What the precondition says of one sequence. -/
theorem nonneg [Cert.Pre_lengths.Facts] (x : FVec Ideal Cert.Pre_lengths.S1x16x4096x1024 .f32) (ln : IVec Cert.Pre_lengths.S16 32)
    (h : Cert.Pre_lengths.fn (F := Ideal) x ln = fun _ => 1#1) (i : Fin 16) : 0 ≤ (ln (ix1 i)).toInt := by
  have e := congrFun h ix0
  unfold Cert.Pre_lengths.fn at e
  exact IntOp.cmpi_sge.1 (Host.reduce_andi_all _ _ _ _ ix0 e (ix1 i))

end Cert.Pool

namespace Cert.ReferenceIdeal.Pool

open Cert.ReferenceIdeal Cert.ReferenceIdeal.Gen Cert.Pool
open Idealize.ShloMosaic Idealize.ShloMosaic.TcCoe Idealize.ShloMosaic.Pointwise Idealize.SL.Sem

theorem row_toInt : ∀ l : Fin 4096, (BitVec.ofNat 32 l.val).toInt = (l.val : ℤ) := fun l => by
  have hl := l.isLt
  rw [BitVec.toInt_eq_toNat_cond, BitVec.toNat_ofNat]
  split <;> omega

/-- The reference's rows before the length, and zero after. -/
def masked (x : Vec Ideal S1x16x4096x1024 .f32) (ln : IVec S16 32) : Vec Ideal S16x4096x1024 .f32 :=
  select (broadcastInDim S16x4096x1024 ![0, 1, 2] bcast_S16x4096x1_S16x4096x1024_0_1_2
      (cmpi .slt (broadcastInDim S16x4096x1 ![0, 1, 2] bcast_S1x4096x1_S16x4096x1_0_1_2
          (broadcastInDim S1x4096x1 ![1] bcast_S4096_S1x4096x1_1 (iotaInDim S4096 32 0)))
        (broadcastInDim S16x4096x1 ![0, 1, 2] bcast_S16x1x1_S16x4096x1_0_1_2 (broadcastInDim S16x1x1 ![0] bcast_S16_S16x1x1_0 ln))))
    (shapeCast S16x4096x1024 x shapeCasts_S1x16x4096x1024_S16x4096x1024)
    (broadcastInDim S16x4096x1024 ![] bcast_S_S16x4096x1024 (constant (F := Ideal) S_ .f32 0x00000000#32))

theorem masked_apply (x : Vec Ideal S1x16x4096x1024 .f32) (ln : IVec S16 32) (i : Fin 16) (l : Fin 4096) (d : Fin 1024) :
    masked x ln (ix3 i l d) = if (l.val : ℤ) < (ln (ix1 i)).toInt then x (ix4 (0 : Fin 1) i l d) else 0 := by
  pointwise [masked]
  rw [WordCmp.cmpi_slt_eq, row_toInt]
  by_cases h : (l.val : ℤ) < (ln (ix1 i)).toInt
  · rw [if_pos h, decide_eq_true h]; rfl
  · rw [if_neg h, decide_eq_false h]; rfl

/-- The reference's result. -/
def value (x : Vec Ideal S1x16x4096x1024 .f32) (ln : IVec S16 32) : Vec Ideal S16x1024 .f32 :=
  Host.divf (Host.reduceAdd (masked x ln) (constant (F := Ideal) S_ .f32 0x00000000#32) reducesTo_S16x4096x1024_S16x1024_d1 h_S_)
    (broadcastInDim S16x1024 ![0, 1] bcast_S16x1_S16x1024_0_1 (sitofp .f32 (broadcastInDim S16x1 ![0] bcast_S16_S16x1_0 ln)))

theorem value_eq (x : Vec Ideal S1x16x4096x1024 .f32) (ln : IVec S16 32) : value x ln = means x ln := by
  have key : ∀ (i : Fin 16) (d : Fin 1024), value x ln (ix2 i d) = mean x ln i d := by
    intro i d
    pointwise [value]
    unfold mean
    exact congrArg (fun s => Ideal.div s _) (Finset.sum_congr rfl fun l _ => masked_apply x ln i l d)
  funext j
  rw [eq_ix2 j]
  exact key _ _

/-- Every run ends with the means in the result and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = means (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (value_eq _ _), (h c).2⟩) (Value.run m ρ)

/-- Every run ends with the arguments as launched and every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run _ _ _).mono (fun r h => ⟨fun c => (h c).2, sem_eq_zero_of_no_sems (by decide) r.2⟩) (run m ρ)

end Cert.ReferenceIdeal.Pool
end
-- ==== Proof.lean ====
/- The certificate's theorem: the kernel, its ideal reading and the reference leave their arguments and their counters as they
   found them, and where no length is negative the kernel and the reference both compute the mean of each sequence. -/
module

public import proofs.«01_k».proof.Proof.Gen.ReferenceIdeal.Run
public import proofs.«01_k».proof.Proof.KernelFrame
public import proofs.«01_k».proof.Proof.Value
public import proofs.«01_k».proof.Proof.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- Where no length is negative, the kernel's runs end with the means, and the arguments as launched. -/
theorem kernel_means [Cert.Pre_lengths.Facts] (m : (ℓ : Loc Cert.KernelIdeal.nD Cert.KernelIdeal.τ Cert.KernelIdeal.sig) → Buf (Elt Ideal) ℓ)
    (g : Dev Cert.KernelIdeal.nD → PrngReg) (h : Cert.Pre_KernelIdeal_lengths m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v17)
        = Cert.Pool.means (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run _ _ _).mono (fun _ r c => ⟨(r.1 c).trans (Cert.KernelIdeal.Pool.final_eq m _ c fun i => Cert.Pool.nonneg _ _ (h c) i), r.2 c⟩)
    (Cert.KernelIdeal.Pool.run_both m g (Cert.KernelIdeal.Pool.ok m))

/-- The certificate. The first five parts are the programs' own runs, with and without the precondition. -/
theorem claim : Cert.Claim :=
  ⟨Cert.Kernel.Gen.facts, Cert.KernelIdeal.Gen.facts, Cert.ReferenceIdeal.Gen.facts, Cert.Pool.pre_facts,
    fun m g _ => Cert.Pool.kernel_frame m g,
    fun m g _ => Cert.KernelIdeal.Pool.frame m g (Cert.KernelIdeal.Pool.ok m),
    fun m g _ => Cert.KernelIdeal.Pool.frame m g (Cert.KernelIdeal.Pool.ok m),
    fun m g _ => Cert.ReferenceIdeal.Pool.frame m g,
    fun m g _ => Cert.ReferenceIdeal.Pool.frame m g,
    trivial,
    fun m g m' g' h same => by
      letI := Cert.Pool.pre_facts
      refine ⟨fun c => Cert.Pool.means (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
        kernel_means m g h, (θ_run _ _ _).mono (fun _ r c => ⟨(r c).1.trans ?_, (r c).2⟩) (Cert.ReferenceIdeal.Pool.run m' g')⟩
      rw [(same c).1, (same c).2]⟩

end Cert.Proof

end
